-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v189_0)) (v1 : (c : Dev Cert.KernelIdeal.nD) → Buf (Elt Ideal) ((c.tc : Thread Cert.KernelIdeal.nD Cert.KernelIdeal.τ).loc Cert.KernelIdeal.main_v189_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v189_0) = v0 c
          ∧ r.2.mem ((c.tc : Thread Cert.KernelIdeal.nD Cert.KernelIdeal.τ).loc Cert.KernelIdeal.main_v189_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S16x196x64 : Shape := ⟨3, ![16, 196, 64]⟩
abbrev S8192x64 : Shape := ⟨2, ![8192, 64]⟩
abbrev S_ : Shape := ⟨0, ![]⟩
abbrev S8192 : Shape := ⟨1, ![8192]⟩

class Facts : Prop where
  reducesTo_S8192x64_S8192_d1 : S8192x64.ReducesTo [1] S8192
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16x196x64 .f32) (main_arg1 : FVec F S8192x64 .f32) (main_arg2 : IVec S_ 32) : IVec S_ 1 :=
  let main_cst : FVec F S_ .f32 := constant S_ .f32 0xFF800000#32
  let main_v0 : FVec F S8192 .f32 := (fun x v => Host.reduce FloatOps.maximumf x v reducesTo_S8192x64_S8192_d1 h_S_) main_arg1 main_cst
  let main_v1 : FVec F S8192 .f32 := Host.absf main_v0
  let main_cst_0 : FVec F S_ .f32 := constant S_ .f32 0x7F800000#32
  let main_v2 : FVec F S8192 .f32 := broadcastInDim S8192 ![] bcast_S_S8192 main_cst_0
  let main_v3 : IVec S8192 1 := cmpf .olt main_v1 main_v2
  let main_c : IVec S_ 1 := constantI S_ 1 1#1
  let main_v4 : IVec S_ 1 := (fun x v => Host.reduce IntOp.andi x v reducesTo_S8192_S_d0 h_S_) main_v3 main_c
  main_v4
-- ==== Kernel.lean ====
abbrev S16x196x64 : Shape := ⟨3, ![16, 196, 64]⟩
abbrev S8192x64 : Shape := ⟨2, ![8192, 64]⟩
abbrev S_ : Shape := ⟨0, ![]⟩
abbrev S524288 : Shape := ⟨1, ![524288]⟩
abbrev S64x8192 : Shape := ⟨2, ![64, 8192]⟩
abbrev S8194 : Shape := ⟨1, ![8194]⟩
abbrev S64x1024 : Shape := ⟨2, ![64, 1024]⟩
abbrev S1024 : Shape := ⟨1, ![1024]⟩
abbrev S1x1024 : Shape := ⟨2, ![1, 1024]⟩
abbrev S1 : Shape := ⟨1, ![1]⟩

abbrev nBuf : Space → Nat
  | .hbm => 256
  | .vmem => 4
  | .smem => 0
  | _ => 0

abbrev hbmTy0_0 (i : Nat) : BufTy := match i % 128 with
  | 0 => ⟨S16x196x64, .f32⟩
  | 1 => ⟨S8192x64, .f32⟩
  | 2 => ⟨S_, .i32⟩
  | 3 => ⟨S524288, .i32⟩
  | 4 => ⟨S_, .i32⟩
  | 5 => ⟨S524288, .i32⟩
  | 6 => ⟨S_, .i32⟩
  | 7 => ⟨S524288, .i32⟩
  | 8 => ⟨S524288, .i32⟩
  | 9 => ⟨S_, .i32⟩
  | 10 => ⟨S524288, .i32⟩
  | 11 => ⟨S524288, .i32⟩
  | 12 => ⟨S524288, .i32⟩
  | 13 => ⟨S_, .i32⟩
  | 14 => ⟨S524288, .i32⟩
  | 15 => ⟨S524288, .i32⟩
  | 16 => ⟨S_, .i32⟩
  | 17 => ⟨S524288, .i32⟩
  | 18 => ⟨S524288, .i32⟩
  | 19 => ⟨S524288, .i32⟩
  | 20 => ⟨S524288, .i32⟩
  | 21 => ⟨S524288, .i32⟩
  | 22 => ⟨S_, .i32⟩
  | 23 => ⟨S524288, .i32⟩
  | 24 => ⟨S524288, .i32⟩
  | 25 => ⟨S_, .i32⟩
  | 26 => ⟨S524288, .i32⟩
  | 27 => ⟨S524288, .i32⟩
  | 28 => ⟨S524288, .i32⟩
  | 29 => ⟨S524288, .i32⟩
  | 30 => ⟨S524288, .i32⟩
  | 31 => ⟨S_, .i32⟩
  | 32 => ⟨S524288, .i32⟩
  | 33 => ⟨S524288, .i32⟩
  | 34 => ⟨S_, .i32⟩
  | 35 => ⟨S524288, .i32⟩
  | 36 => ⟨S524288, .i32⟩
  | 37 => ⟨S524288, .i32⟩
  | 38 => ⟨S524288, .i32⟩
  | 39 => ⟨S524288, .i32⟩
  | 40 => ⟨S_, .i32⟩
  | 41 => ⟨S524288, .i32⟩
  | 42 => ⟨S524288, .i32⟩
  | 43 => ⟨S_, .i32⟩
  | 44 => ⟨S524288, .i32⟩
  | 45 => ⟨S524288, .i32⟩
  | 46 => ⟨S524288, .i32⟩
  | 47 => ⟨S524288, .i32⟩
  | 48 => ⟨S_, .i32⟩
  | 49 => ⟨S524288, .i32⟩
  | 50 => ⟨S524288, .i32⟩
  | 51 => ⟨S_, .i32⟩
  | 52 => ⟨S524288, .i32⟩
  | 53 => ⟨S524288, .i32⟩
  | 54 => ⟨S_, .i32⟩
  | 55 => ⟨S524288, .i32⟩
  | 56 => ⟨S524288, .i32⟩
  | 57 => ⟨S524288, .i32⟩
  | 58 => ⟨S_, .i32⟩
  | 59 => ⟨S524288, .i32⟩
  | 60 => ⟨S524288, .i32⟩
  | 61 => ⟨S_, .i32⟩
  | 62 => ⟨S524288, .i32⟩
  | 63 => ⟨S524288, .i32⟩
  | 64 => ⟨S524288, .i32⟩
  | 65 => ⟨S524288, .i32⟩
  | 66 => ⟨S524288, .i32⟩
  | 67 => ⟨S_, .i32⟩
  | 68 => ⟨S524288, .i32⟩
  | 69 => ⟨S524288, .i32⟩
  | 70 => ⟨S_, .i32⟩
  | 71 => ⟨S524288, .i32⟩
  | 72 => ⟨S524288, .i32⟩
  | 73 => ⟨S524288, .i32⟩
  | 74 => ⟨S524288, .i32⟩
  | 75 => ⟨S524288, .i32⟩
  | 76 => ⟨S_, .i32⟩
  | 77 => ⟨S524288, .i32⟩
  | 78 => ⟨S524288, .i32⟩
  | 79 => ⟨S_, .i32⟩
  | 80 => ⟨S524288, .i32⟩
  | 81 => ⟨S524288, .i32⟩
  | 82 => ⟨S524288, .i32⟩
  | 83 => ⟨S524288, .i32⟩
  | 84 => ⟨S524288, .i32⟩
  | 85 => ⟨S_, .i32⟩
  | 86 => ⟨S524288, .i32⟩
  | 87 => ⟨S524288, .i32⟩
  | 88 => ⟨S_, .i32⟩
  | 89 => ⟨S524288, .i32⟩
  | 90 => ⟨S524288, .i32⟩
  | 91 => ⟨S524288, .i32⟩
  | 92 => ⟨S524288, .i32⟩
  | 93 => ⟨S_, .i32⟩
  | 94 => ⟨S524288, .i32⟩
  | 95 => ⟨S524288, .i32⟩
  | 96 => ⟨S_, .i32⟩
  | 97 => ⟨S524288, .i32⟩
  | 98 => ⟨S524288, .i32⟩
  | 99 => ⟨S_, .i32⟩
  | 100 => ⟨S524288, .i32⟩
  | 101 => ⟨S524288, .i32⟩
  | 102 => ⟨S524288, .i32⟩
  | 103 => ⟨S_, .i32⟩
  | 104 => ⟨S524288, .i32⟩
  | 105 => ⟨S524288, .i32⟩
  | 106 => ⟨S_, .i32⟩
  | 107 => ⟨S524288, .i32⟩
  | 108 => ⟨S524288, .i32⟩
  | 109 => ⟨S524288, .i32⟩
  | 110 => ⟨S524288, .i32⟩
  | 111 => ⟨S524288, .i32⟩
  | 112 => ⟨S_, .i32⟩
  | 113 => ⟨S524288, .i32⟩
  | 114 => ⟨S524288, .i32⟩
  | 115 => ⟨S_, .i32⟩
  | 116 => ⟨S524288, .i32⟩
  | 117 => ⟨S524288, .i32⟩
  | 118 => ⟨S524288, .i32⟩
  | 119 => ⟨S524288, .i32⟩
  | 120 => ⟨S524288, .i32⟩
  | 121 => ⟨S_, .i32⟩
  | 122 => ⟨S524288, .i32⟩
  | 123 => ⟨S524288, .i32⟩
  | 124 => ⟨S_, .i32⟩
  | 125 => ⟨S524288, .i32⟩
  | 126 => ⟨S524288, .i32⟩
  | 127 => ⟨S524288, .i32⟩
  | _ => ⟨S16x196x64, .f32⟩

abbrev hbmTy0_1 (i : Nat) : BufTy := match i % 128 with
  | 0 => ⟨S524288, .i32⟩
  | 1 => ⟨S524288, .i32⟩
  | 2 => ⟨S_, .i32⟩
  | 3 => ⟨S524288, .i32⟩
  | 4 => ⟨S524288, .i32⟩
  | 5 => ⟨S_, .i32⟩
  | 6 => ⟨S524288, .i32⟩
  | 7 => ⟨S524288, .i32⟩
  | 8 => ⟨S524288, .i32⟩
  | 9 => ⟨S524288, .i32⟩
  | 10 => ⟨S_, .i32⟩
  | 11 => ⟨S524288, .i32⟩
  | 12 => ⟨S524288, .i32⟩
  | 13 => ⟨S_, .i32⟩
  | 14 => ⟨S524288, .i32⟩
  | 15 => ⟨S524288, .i32⟩
  | 16 => ⟨S_, .i32⟩
  | 17 => ⟨S524288, .i32⟩
  | 18 => ⟨S524288, .i32⟩
  | 19 => ⟨S524288, .i32⟩
  | 20 => ⟨S_, .i32⟩
  | 21 => ⟨S524288, .i32⟩
  | 22 => ⟨S524288, .i32⟩
  | 23 => ⟨S_, .i32⟩
  | 24 => ⟨S524288, .i32⟩
  | 25 => ⟨S524288, .i32⟩
  | 26 => ⟨S524288, .i32⟩
  | 27 => ⟨S524288, .i32⟩
  | 28 => ⟨S524288, .i32⟩
  | 29 => ⟨S_, .i32⟩
  | 30 => ⟨S524288, .i32⟩
  | 31 => ⟨S524288, .i32⟩
  | 32 => ⟨S_, .i32⟩
  | 33 => ⟨S524288, .i32⟩
  | 34 => ⟨S524288, .i32⟩
  | 35 => ⟨S524288, .i32⟩
  | 36 => ⟨S524288, .i32⟩
  | 37 => ⟨S524288, .i32⟩
  | 38 => ⟨S_, .i32⟩
  | 39 => ⟨S524288, .i32⟩
  | 40 => ⟨S524288, .i32⟩
  | 41 => ⟨S_, .i32⟩
  | 42 => ⟨S524288, .i32⟩
  | 43 => ⟨S524288, .i32⟩
  | 44 => ⟨S524288, .i32⟩
  | 45 => ⟨S524288, .i32⟩
  | 46 => ⟨S524288, .i32⟩
  | 47 => ⟨S_, .i32⟩
  | 48 => ⟨S524288, .i32⟩
  | 49 => ⟨S524288, .i32⟩
  | 50 => ⟨S_, .i32⟩
  | 51 => ⟨S524288, .i32⟩
  | 52 => ⟨S524288, .i32⟩
  | 53 => ⟨S524288, .i32⟩
  | 54 => ⟨S524288, .i32⟩
  | 55 => ⟨S_, .i32⟩
  | 56 => ⟨S524288, .i32⟩
  | 57 => ⟨S524288, .i32⟩
  | 58 => ⟨S_, .i32⟩
  | 59 => ⟨S524288, .i32⟩
  | 60 => ⟨S524288, .i32⟩
  | 61 => ⟨S_, .i32⟩
  | 62 => ⟨S524288, .i32⟩
  | 63 => ⟨S524288, .i32⟩
  | 64 => ⟨S524288, .i32⟩
  | 65 => ⟨S_, .i32⟩
  | 66 => ⟨S524288, .i32⟩
  | 67 => ⟨S524288, .i32⟩
  | 68 => ⟨S_, .i32⟩
  | 69 => ⟨S524288, .i32⟩
  | 70 => ⟨S524288, .i32⟩
  | 71 => ⟨S524288, .i32⟩
  | 72 => ⟨S524288, .i32⟩
  | 73 => ⟨S524288, .i32⟩
  | 74 => ⟨S_, .i32⟩
  | 75 => ⟨S524288, .i32⟩
  | 76 => ⟨S524288, .i32⟩
  | 77 => ⟨S_, .i32⟩
  | 78 => ⟨S524288, .i32⟩
  | 79 => ⟨S524288, .i32⟩
  | 80 => ⟨S524288, .i32⟩
  | 81 => ⟨S524288, .i32⟩
  | 82 => ⟨S524288, .i32⟩
  | 83 => ⟨S_, .i32⟩
  | 84 => ⟨S524288, .i32⟩
  | 85 => ⟨S524288, .i32⟩
  | 86 => ⟨S_, .i32⟩
  | 87 => ⟨S524288, .i32⟩
  | 88 => ⟨S524288, .i32⟩
  | 89 => ⟨S524288, .i32⟩
  | 90 => ⟨S524288, .i32⟩
  | 91 => ⟨S524288, .i32⟩
  | 92 => ⟨S_, .i32⟩
  | 93 => ⟨S524288, .i32⟩
  | 94 => ⟨S524288, .i32⟩
  | 95 => ⟨S_, .i32⟩
  | 96 => ⟨S524288, .i32⟩
  | 97 => ⟨S524288, .i32⟩
  | 98 => ⟨S524288, .i32⟩
  | 99 => ⟨S524288, .i32⟩
  | 100 => ⟨S_, .i32⟩
  | 101 => ⟨S524288, .i32⟩
  | 102 => ⟨S524288, .i32⟩
  | 103 => ⟨S_, .i32⟩
  | 104 => ⟨S524288, .i32⟩
  | 105 => ⟨S524288, .i32⟩
  | 106 => ⟨S_, .i32⟩
  | 107 => ⟨S524288, .i32⟩
  | 108 => ⟨S524288, .i32⟩
  | 109 => ⟨S524288, .i32⟩
  | 110 => ⟨S_, .i32⟩
  | 111 => ⟨S524288, .i32⟩
  | 112 => ⟨S524288, .i32⟩
  | 113 => ⟨S_, .i32⟩
  | 114 => ⟨S524288, .i32⟩
  | 115 => ⟨S524288, .i32⟩
  | 116 => ⟨S524288, .f32⟩
  | 117 => ⟨S_, .f32⟩
  | 118 => ⟨S524288, .f32⟩
  | 119 => ⟨S524288, .f32⟩
  | 120 => ⟨S_, .f32⟩
  | 121 => ⟨S524288, .f32⟩
  | 122 => ⟨S524288, .f32⟩
  | 123 => ⟨S8192x64, .f32⟩
  | 124 => ⟨S64x8192, .f32⟩
  | 125 => ⟨S64x8192, .f32⟩
  | 126 => ⟨S8194, .f32⟩
  | 127 => ⟨S8194, .i32⟩
  | _ => ⟨S16x196x64, .f32⟩

abbrev hbmTy (i : Nat) : BufTy := match i / 128 with
  | 0 => hbmTy0_0 i
  | 1 => hbmTy0_1 i
  | _ => ⟨S16x196x64, .f32⟩

abbrev bufTy : (tb : Table) → Fin (tcTables nBuf tb) → BufTy
  | .hbm, ⟨i, _⟩ => hbmTy i
  | .local _ .vmem, ⟨0, _⟩ => ⟨S64x8192, .f32⟩
  | .local _ .vmem, ⟨1, _⟩ => ⟨S64x8192, .f32⟩
  | .local _ .vmem, ⟨2, _⟩ => ⟨S8194, .f32⟩
  | .local _ .vmem, ⟨3, _⟩ => ⟨S8194, .i32⟩
  | _, _ => ⟨S16x196x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_c_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_10 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_c_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_13 : Ref sig .tc := ⟨.hbm, 58, rfl⟩
abbrev main_v41 : Ref sig .tc := ⟨.hbm, 59, rfl⟩
abbrev main_v42 : Ref sig .tc := ⟨.hbm, 60, rfl⟩
abbrev main_c_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_15 : Ref sig .tc := ⟨.hbm, 67, rfl⟩
abbrev main_v48 : Ref sig .tc := ⟨.hbm, 68, rfl⟩
abbrev main_v49 : Ref sig .tc := ⟨.hbm, 69, rfl⟩
abbrev main_c_16 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_17 : Ref sig .tc := ⟨.hbm, 76, rfl⟩
abbrev main_v55 : Ref sig .tc := ⟨.hbm, 77, rfl⟩
abbrev main_v56 : Ref sig .tc := ⟨.hbm, 78, rfl⟩
abbrev main_c_18 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_19 : Ref sig .tc := ⟨.hbm, 85, rfl⟩
abbrev main_v62 : Ref sig .tc := ⟨.hbm, 86, rfl⟩
abbrev main_v63 : Ref sig .tc := ⟨.hbm, 87, rfl⟩
abbrev main_c_20 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_21 : Ref sig .tc := ⟨.hbm, 93, rfl⟩
abbrev main_v68 : Ref sig .tc := ⟨.hbm, 94, rfl⟩
abbrev main_v69 : Ref sig .tc := ⟨.hbm, 95, rfl⟩
abbrev main_c_22 : Ref sig .tc := ⟨.hbm, 96, rfl⟩
abbrev main_v70 : Ref sig .tc := ⟨.hbm, 97, rfl⟩
abbrev main_v71 : Ref sig .tc := ⟨.hbm, 98, rfl⟩
abbrev main_c_23 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_24 : Ref sig .tc := ⟨.hbm, 103, rfl⟩
abbrev main_v75 : Ref sig .tc := ⟨.hbm, 104, rfl⟩
abbrev main_v76 : Ref sig .tc := ⟨.hbm, 105, rfl⟩
abbrev main_c_25 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_26 : Ref sig .tc := ⟨.hbm, 112, rfl⟩
abbrev main_v82 : Ref sig .tc := ⟨.hbm, 113, rfl⟩
abbrev main_v83 : Ref sig .tc := ⟨.hbm, 114, rfl⟩
abbrev main_c_27 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_28 : Ref sig .tc := ⟨.hbm, 121, rfl⟩
abbrev main_v89 : Ref sig .tc := ⟨.hbm, 122, rfl⟩
abbrev main_v90 : Ref sig .tc := ⟨.hbm, 123, rfl⟩
abbrev main_c_29 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_30 : Ref sig .tc := ⟨.hbm, 130, rfl⟩
abbrev main_v96 : Ref sig .tc := ⟨.hbm, 131, rfl⟩
abbrev main_v97 : Ref sig .tc := ⟨.hbm, 132, rfl⟩
abbrev main_c_31 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_32 : Ref sig .tc := ⟨.hbm, 138, rfl⟩
abbrev main_v102 : Ref sig .tc := ⟨.hbm, 139, rfl⟩
abbrev main_v103 : Ref sig .tc := ⟨.hbm, 140, rfl⟩
abbrev main_c_33 : Ref sig .tc := ⟨.hbm, 141, rfl⟩
abbrev main_v104 : Ref sig .tc := ⟨.hbm, 142, rfl⟩
abbrev main_v105 : Ref sig .tc := ⟨.hbm, 143, rfl⟩
abbrev main_c_34 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_35 : Ref sig .tc := ⟨.hbm, 148, rfl⟩
abbrev main_v109 : Ref sig .tc := ⟨.hbm, 149, rfl⟩
abbrev main_v110 : Ref sig .tc := ⟨.hbm, 150, rfl⟩
abbrev main_c_36 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_37 : Ref sig .tc := ⟨.hbm, 157, rfl⟩
abbrev main_v116 : Ref sig .tc := ⟨.hbm, 158, rfl⟩
abbrev main_v117 : Ref sig .tc := ⟨.hbm, 159, rfl⟩
abbrev main_c_38 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_39 : Ref sig .tc := ⟨.hbm, 166, rfl⟩
abbrev main_v123 : Ref sig .tc := ⟨.hbm, 167, rfl⟩
abbrev main_v124 : Ref sig .tc := ⟨.hbm, 168, rfl⟩
abbrev main_c_40 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_41 : Ref sig .tc := ⟨.hbm, 175, rfl⟩
abbrev main_v130 : Ref sig .tc := ⟨.hbm, 176, rfl⟩
abbrev main_v131 : Ref sig .tc := ⟨.hbm, 177, rfl⟩
abbrev main_c_42 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_43 : Ref sig .tc := ⟨.hbm, 183, rfl⟩
abbrev main_v136 : Ref sig .tc := ⟨.hbm, 184, rfl⟩
abbrev main_v137 : Ref sig .tc := ⟨.hbm, 185, rfl⟩
abbrev main_c_44 : Ref sig .tc := ⟨.hbm, 186, rfl⟩
abbrev main_v138 : Ref sig .tc := ⟨.hbm, 187, rfl⟩
abbrev main_v139 : Ref sig .tc := ⟨.hbm, 188, rfl⟩
abbrev main_c_45 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_46 : Ref sig .tc := ⟨.hbm, 193, rfl⟩
abbrev main_v143 : Ref sig .tc := ⟨.hbm, 194, rfl⟩
abbrev main_v144 : Ref sig .tc := ⟨.hbm, 195, rfl⟩
abbrev main_c_47 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_48 : Ref sig .tc := ⟨.hbm, 202, rfl⟩
abbrev main_v150 : Ref sig .tc := ⟨.hbm, 203, rfl⟩
abbrev main_v151 : Ref sig .tc := ⟨.hbm, 204, rfl⟩
abbrev main_c_49 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_c_50 : Ref sig .tc := ⟨.hbm, 211, rfl⟩
abbrev main_v157 : Ref sig .tc := ⟨.hbm, 212, rfl⟩
abbrev main_v158 : Ref sig .tc := ⟨.hbm, 213, rfl⟩
abbrev main_c_51 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_c_52 : Ref sig .tc := ⟨.hbm, 220, rfl⟩
abbrev main_v164 : Ref sig .tc := ⟨.hbm, 221, rfl⟩
abbrev main_v165 : Ref sig .tc := ⟨.hbm, 222, rfl⟩
abbrev main_c_53 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_c_54 : Ref sig .tc := ⟨.hbm, 228, rfl⟩
abbrev main_v170 : Ref sig .tc := ⟨.hbm, 229, rfl⟩
abbrev main_v171 : Ref sig .tc := ⟨.hbm, 230, rfl⟩
abbrev main_c_55 : Ref sig .tc := ⟨.hbm, 231, rfl⟩
abbrev main_v172 : Ref sig .tc := ⟨.hbm, 232, rfl⟩
abbrev main_v173 : Ref sig .tc := ⟨.hbm, 233, rfl⟩
abbrev main_c_56 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_c_57 : Ref sig .tc := ⟨.hbm, 238, rfl⟩
abbrev main_v177 : Ref sig .tc := ⟨.hbm, 239, rfl⟩
abbrev main_v178 : Ref sig .tc := ⟨.hbm, 240, rfl⟩
abbrev main_c_58 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_cst : Ref sig .tc := ⟨.hbm, 245, rfl⟩
abbrev main_v182 : Ref sig .tc := ⟨.hbm, 246, rfl⟩
abbrev main_v183 : Ref sig .tc := ⟨.hbm, 247, rfl⟩
abbrev main_cst_59 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189_0 : Ref sig .tc := ⟨.hbm, 254, rfl⟩
abbrev main_v189_1 : Ref sig .tc := ⟨.hbm, 255, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8194 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8194 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x196x64 : Shape := ⟨3, ![16, 196, 64]⟩
abbrev S8192x64 : Shape := ⟨2, ![8192, 64]⟩
abbrev S_ : Shape := ⟨0, ![]⟩
abbrev S1 : Shape := ⟨1, ![1]⟩
abbrev S1x8192x64 : Shape := ⟨3, ![1, 8192, 64]⟩
abbrev S2 : Shape := ⟨1, ![2]⟩
abbrev S1x1x1 : Shape := ⟨3, ![1, 1, 1]⟩
abbrev S1x8192 : Shape := ⟨2, ![1, 8192]⟩
abbrev S1x8192x1 : Shape := ⟨3, ![1, 8192, 1]⟩
abbrev S1x1x64 : Shape := ⟨3, ![1, 1, 64]⟩
abbrev S8192x1x1 : Shape := ⟨3, ![8192, 1, 1]⟩
abbrev S8192x1 : Shape := ⟨2, ![8192, 1]⟩
abbrev S8192 : Shape := ⟨1, ![8192]⟩
abbrev S8194 : Shape := ⟨1, ![8194]⟩

abbrev nBuf : Space → Nat
  | .hbm => 353
  | .vmem => 0
  | .smem => 0
  | _ => 0

abbrev hbmTy0_0 (i : Nat) : BufTy := match i % 128 with
  | 0 => ⟨S16x196x64, .f32⟩
  | 1 => ⟨S8192x64, .f32⟩
  | 2 => ⟨S_, .i32⟩
  | 3 => ⟨S1, .i32⟩
  | 4 => ⟨S1, .i32⟩
  | 5 => ⟨S1x8192x64, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S_, .f32⟩
  | 20 => ⟨S1x1x1, .f32⟩
  | 21 => ⟨S1x1x1, .f32⟩
  | 22 => ⟨S1, .i32⟩
  | 23 => ⟨S_, .i32⟩
  | 24 => ⟨S1, .i32⟩
  | 25 => ⟨S_, .i32⟩
  | 26 => ⟨S1x8192x64, .i64⟩
  | 27 => ⟨S1x8192x64, .i64⟩
  | 28 => ⟨S1x8192x64, .i64⟩
  | 29 => ⟨S_, .i64⟩
  | 30 => ⟨S1x8192x64, .i64⟩
  | 31 => ⟨S1x8192x64, .i64⟩
  | 32 => ⟨S_, .i64⟩
  | 33 => ⟨S1x8192x64, .i64⟩
  | 34 => ⟨S1x8192x64, .i64⟩
  | 35 => ⟨S_, .i64⟩
  | 36 => ⟨S1x8192x64, .i64⟩
  | 37 => ⟨S1x8192x64, .i64⟩
  | 38 => ⟨S1x8192x64, .i64⟩
  | 39 => ⟨S1x8192x64, .i64⟩
  | 40 => ⟨S_, .i64⟩
  | 41 => ⟨S1x8192x64, .i64⟩
  | 42 => ⟨S1x8192x64, .i64⟩
  | 43 => ⟨S1x8192x64, .i32⟩
  | 44 => ⟨S1x8192x64, .i32⟩
  | 45 => ⟨S_, .i32⟩
  | 46 => ⟨S_, .i32⟩
  | 47 => ⟨S_, .i32⟩
  | 48 => ⟨S1x8192x64, .i32⟩
  | 49 => ⟨S1x8192x64, .i32⟩
  | 50 => ⟨S1x8192x64, .i32⟩
  | 51 => ⟨S1x8192x64, .i32⟩
  | 52 => ⟨S1x8192x64, .i32⟩
  | 53 => ⟨S_, .i32⟩
  | 54 => ⟨S1x8192x64, .i32⟩
  | 55 => ⟨S1x8192x64, .i32⟩
  | 56 => ⟨S_, .i32⟩
  | 57 => ⟨S1x8192x64, .i32⟩
  | 58 => ⟨S1x8192x64, .i32⟩
  | 59 => ⟨S1x8192x64, .i32⟩
  | 60 => ⟨S1x8192x64, .i32⟩
  | 61 => ⟨S1x8192x64, .i32⟩
  | 62 => ⟨S_, .i32⟩
  | 63 => ⟨S1x8192x64, .i32⟩
  | 64 => ⟨S1x8192x64, .i32⟩
  | 65 => ⟨S_, .i32⟩
  | 66 => ⟨S1x8192x64, .i32⟩
  | 67 => ⟨S1x8192x64, .i32⟩
  | 68 => ⟨S1x8192x64, .i32⟩
  | 69 => ⟨S1x8192x64, .i32⟩
  | 70 => ⟨S1x8192x64, .i32⟩
  | 71 => ⟨S_, .i32⟩
  | 72 => ⟨S1x8192x64, .i32⟩
  | 73 => ⟨S1x8192x64, .i32⟩
  | 74 => ⟨S_, .i32⟩
  | 75 => ⟨S1x8192x64, .i32⟩
  | 76 => ⟨S1x8192x64, .i32⟩
  | 77 => ⟨S1x8192x64, .i32⟩
  | 78 => ⟨S1x8192x64, .i32⟩
  | 79 => ⟨S1x8192x64, .i32⟩
  | 80 => ⟨S_, .i32⟩
  | 81 => ⟨S1x8192x64, .i32⟩
  | 82 => ⟨S1x8192x64, .i32⟩
  | 83 => ⟨S_, .i32⟩
  | 84 => ⟨S1x8192x64, .i32⟩
  | 85 => ⟨S1x8192x64, .i32⟩
  | 86 => ⟨S1x8192x64, .i32⟩
  | 87 => ⟨S1x8192x64, .i32⟩
  | 88 => ⟨S1x8192x64, .i32⟩
  | 89 => ⟨S1x8192x64, .i32⟩
  | 90 => ⟨S1x8192x64, .i32⟩
  | 91 => ⟨S1x8192x64, .i32⟩
  | 92 => ⟨S_, .i32⟩
  | 93 => ⟨S1x8192x64, .i32⟩
  | 94 => ⟨S1x8192x64, .i32⟩
  | 95 => ⟨S1x8192x64, .i32⟩
  | 96 => ⟨S_, .i32⟩
  | 97 => ⟨S1x8192x64, .i32⟩
  | 98 => ⟨S1x8192x64, .i32⟩
  | 99 => ⟨S_, .i32⟩
  | 100 => ⟨S1x8192x64, .i32⟩
  | 101 => ⟨S1x8192x64, .i32⟩
  | 102 => ⟨S1x8192x64, .i32⟩
  | 103 => ⟨S1x8192x64, .i32⟩
  | 104 => ⟨S1x8192x64, .i32⟩
  | 105 => ⟨S_, .i32⟩
  | 106 => ⟨S1x8192x64, .i32⟩
  | 107 => ⟨S1x8192x64, .i32⟩
  | 108 => ⟨S_, .i32⟩
  | 109 => ⟨S1x8192x64, .i32⟩
  | 110 => ⟨S1x8192x64, .i32⟩
  | 111 => ⟨S1x8192x64, .i32⟩
  | 112 => ⟨S1x8192x64, .i32⟩
  | 113 => ⟨S1x8192x64, .i32⟩
  | 114 => ⟨S_, .i32⟩
  | 115 => ⟨S1x8192x64, .i32⟩
  | 116 => ⟨S1x8192x64, .i32⟩
  | 117 => ⟨S_, .i32⟩
  | 118 => ⟨S1x8192x64, .i32⟩
  | 119 => ⟨S1x8192x64, .i32⟩
  | 120 => ⟨S1x8192x64, .i32⟩
  | 121 => ⟨S1x8192x64, .i32⟩
  | 122 => ⟨S1x8192x64, .i32⟩
  | 123 => ⟨S_, .i32⟩
  | 124 => ⟨S1x8192x64, .i32⟩
  | 125 => ⟨S1x8192x64, .i32⟩
  | 126 => ⟨S_, .i32⟩
  | 127 => ⟨S1x8192x64, .i32⟩
  | _ => ⟨S16x196x64, .f32⟩

abbrev hbmTy0_1 (i : Nat) : BufTy := match i % 128 with
  | 0 => ⟨S1x8192x64, .i32⟩
  | 1 => ⟨S1x8192x64, .i32⟩
  | 2 => ⟨S1x8192x64, .i32⟩
  | 3 => ⟨S1x8192x64, .i32⟩
  | 4 => ⟨S1x8192x64, .i32⟩
  | 5 => ⟨S1x8192x64, .i32⟩
  | 6 => ⟨S1x8192x64, .i32⟩
  | 7 => ⟨S_, .i32⟩
  | 8 => ⟨S1x8192x64, .i32⟩
  | 9 => ⟨S1x8192x64, .i32⟩
  | 10 => ⟨S1x8192x64, .i32⟩
  | 11 => ⟨S_, .i32⟩
  | 12 => ⟨S1x8192x64, .i32⟩
  | 13 => ⟨S1x8192x64, .i32⟩
  | 14 => ⟨S_, .i32⟩
  | 15 => ⟨S1x8192x64, .i32⟩
  | 16 => ⟨S1x8192x64, .i32⟩
  | 17 => ⟨S1x8192x64, .i32⟩
  | 18 => ⟨S1x8192x64, .i32⟩
  | 19 => ⟨S1x8192x64, .i32⟩
  | 20 => ⟨S_, .i32⟩
  | 21 => ⟨S1x8192x64, .i32⟩
  | 22 => ⟨S1x8192x64, .i32⟩
  | 23 => ⟨S_, .i32⟩
  | 24 => ⟨S1x8192x64, .i32⟩
  | 25 => ⟨S1x8192x64, .i32⟩
  | 26 => ⟨S1x8192x64, .i32⟩
  | 27 => ⟨S1x8192x64, .i32⟩
  | 28 => ⟨S1x8192x64, .i32⟩
  | 29 => ⟨S_, .i32⟩
  | 30 => ⟨S1x8192x64, .i32⟩
  | 31 => ⟨S1x8192x64, .i32⟩
  | 32 => ⟨S_, .i32⟩
  | 33 => ⟨S1x8192x64, .i32⟩
  | 34 => ⟨S1x8192x64, .i32⟩
  | 35 => ⟨S1x8192x64, .i32⟩
  | 36 => ⟨S1x8192x64, .i32⟩
  | 37 => ⟨S1x8192x64, .i32⟩
  | 38 => ⟨S_, .i32⟩
  | 39 => ⟨S1x8192x64, .i32⟩
  | 40 => ⟨S1x8192x64, .i32⟩
  | 41 => ⟨S_, .i32⟩
  | 42 => ⟨S1x8192x64, .i32⟩
  | 43 => ⟨S1x8192x64, .i32⟩
  | 44 => ⟨S1x8192x64, .i32⟩
  | 45 => ⟨S1x8192x64, .i32⟩
  | 46 => ⟨S1x8192x64, .i32⟩
  | 47 => ⟨S1x8192x64, .i32⟩
  | 48 => ⟨S1x8192x64, .i32⟩
  | 49 => ⟨S1x8192x64, .i32⟩
  | 50 => ⟨S_, .i32⟩
  | 51 => ⟨S1x8192x64, .i32⟩
  | 52 => ⟨S1x8192x64, .i32⟩
  | 53 => ⟨S1x8192x64, .i32⟩
  | 54 => ⟨S_, .i32⟩
  | 55 => ⟨S1x8192x64, .i32⟩
  | 56 => ⟨S1x8192x64, .i32⟩
  | 57 => ⟨S_, .i32⟩
  | 58 => ⟨S1x8192x64, .i32⟩
  | 59 => ⟨S1x8192x64, .i32⟩
  | 60 => ⟨S1x8192x64, .i32⟩
  | 61 => ⟨S1x8192x64, .i32⟩
  | 62 => ⟨S1x8192x64, .i32⟩
  | 63 => ⟨S_, .i32⟩
  | 64 => ⟨S1x8192x64, .i32⟩
  | 65 => ⟨S1x8192x64, .i32⟩
  | 66 => ⟨S_, .i32⟩
  | 67 => ⟨S1x8192x64, .i32⟩
  | 68 => ⟨S1x8192x64, .i32⟩
  | 69 => ⟨S1x8192x64, .i32⟩
  | 70 => ⟨S1x8192x64, .i32⟩
  | 71 => ⟨S1x8192x64, .i32⟩
  | 72 => ⟨S_, .i32⟩
  | 73 => ⟨S1x8192x64, .i32⟩
  | 74 => ⟨S1x8192x64, .i32⟩
  | 75 => ⟨S_, .i32⟩
  | 76 => ⟨S1x8192x64, .i32⟩
  | 77 => ⟨S1x8192x64, .i32⟩
  | 78 => ⟨S1x8192x64, .i32⟩
  | 79 => ⟨S1x8192x64, .i32⟩
  | 80 => ⟨S1x8192x64, .i32⟩
  | 81 => ⟨S_, .i32⟩
  | 82 => ⟨S1x8192x64, .i32⟩
  | 83 => ⟨S1x8192x64, .i32⟩
  | 84 => ⟨S_, .i32⟩
  | 85 => ⟨S1x8192x64, .i32⟩
  | 86 => ⟨S1x8192x64, .i32⟩
  | 87 => ⟨S1x8192x64, .i32⟩
  | 88 => ⟨S1x8192x64, .i32⟩
  | 89 => ⟨S1x8192x64, .i32⟩
  | 90 => ⟨S1x8192x64, .i32⟩
  | 91 => ⟨S1x8192x64, .i32⟩
  | 92 => ⟨S1x8192x64, .i32⟩
  | 93 => ⟨S_, .i32⟩
  | 94 => ⟨S1x8192x64, .i32⟩
  | 95 => ⟨S1x8192x64, .i32⟩
  | 96 => ⟨S1x8192x64, .i32⟩
  | 97 => ⟨S_, .i32⟩
  | 98 => ⟨S1x8192x64, .i32⟩
  | 99 => ⟨S1x8192x64, .i32⟩
  | 100 => ⟨S_, .i32⟩
  | 101 => ⟨S1x8192x64, .i32⟩
  | 102 => ⟨S1x8192x64, .i32⟩
  | 103 => ⟨S1x8192x64, .i32⟩
  | 104 => ⟨S1x8192x64, .i32⟩
  | 105 => ⟨S1x8192x64, .i32⟩
  | 106 => ⟨S_, .i32⟩
  | 107 => ⟨S1x8192x64, .i32⟩
  | 108 => ⟨S1x8192x64, .i32⟩
  | 109 => ⟨S_, .i32⟩
  | 110 => ⟨S1x8192x64, .i32⟩
  | 111 => ⟨S1x8192x64, .i32⟩
  | 112 => ⟨S1x8192x64, .i32⟩
  | 113 => ⟨S1x8192x64, .i32⟩
  | 114 => ⟨S1x8192x64, .i32⟩
  | 115 => ⟨S_, .i32⟩
  | 116 => ⟨S1x8192x64, .i32⟩
  | 117 => ⟨S1x8192x64, .i32⟩
  | 118 => ⟨S_, .i32⟩
  | 119 => ⟨S1x8192x64, .i32⟩
  | 120 => ⟨S1x8192x64, .i32⟩
  | 121 => ⟨S1x8192x64, .i32⟩
  | 122 => ⟨S1x8192x64, .i32⟩
  | 123 => ⟨S1x8192x64, .i32⟩
  | 124 => ⟨S_, .i32⟩
  | 125 => ⟨S1x8192x64, .i32⟩
  | 126 => ⟨S1x8192x64, .i32⟩
  | 127 => ⟨S_, .i32⟩
  | _ => ⟨S16x196x64, .f32⟩

abbrev hbmTy0_2 (i : Nat) : BufTy := match i % 128 with
  | 0 => ⟨S1x8192x64, .i32⟩
  | 1 => ⟨S1x8192x64, .i32⟩
  | 2 => ⟨S1x8192x64, .i32⟩
  | 3 => ⟨S1x8192x64, .i32⟩
  | 4 => ⟨S1x8192x64, .i32⟩
  | 5 => ⟨S1x8192x64, .i32⟩
  | 6 => ⟨S1x8192x64, .i32⟩
  | 7 => ⟨S1x8192x64, .i32⟩
  | 8 => ⟨S_, .i32⟩
  | 9 => ⟨S1x8192x64, .i32⟩
  | 10 => ⟨S1x8192x64, .i32⟩
  | 11 => ⟨S1x8192x64, .i32⟩
  | 12 => ⟨S_, .i32⟩
  | 13 => ⟨S1x8192x64, .i32⟩
  | 14 => ⟨S1x8192x64, .i32⟩
  | 15 => ⟨S_, .i32⟩
  | 16 => ⟨S1x8192x64, .i32⟩
  | 17 => ⟨S1x8192x64, .i32⟩
  | 18 => ⟨S1x8192x64, .f32⟩
  | 19 => ⟨S_, .f32⟩
  | 20 => ⟨S1x8192x64, .f32⟩
  | 21 => ⟨S1x8192x64, .f32⟩
  | 22 => ⟨S1x1x1, .f32⟩
  | 23 => ⟨S1x8192x64, .f32⟩
  | 24 => ⟨S1x8192x64, .f32⟩
  | 25 => ⟨S1x8192x64, .f32⟩
  | 26 => ⟨S1x8192x64, .f32⟩
  | 27 => ⟨S1x8192x64, .f32⟩
  | 28 => ⟨S1x8192x64, .f32⟩
  | 29 => ⟨S_, .f32⟩
  | 30 => ⟨S1x8192x64, .f32⟩
  | 31 => ⟨S1x8192x64, .f32⟩
  | 32 => ⟨S1x8192x64, .f32⟩
  | 33 => ⟨S1x8192x64, .f32⟩
  | 34 => ⟨S1x8192x64, .f32⟩
  | 35 => ⟨S1x8192x64, .f32⟩
  | 36 => ⟨S1x8192x64, .f32⟩
  | 37 => ⟨S_, .f32⟩
  | 38 => ⟨S1x8192x64, .f32⟩
  | 39 => ⟨S1x8192x64, .f32⟩
  | 40 => ⟨S_, .f32⟩
  | 41 => ⟨S1x8192, .f32⟩
  | 42 => ⟨S_, .f32⟩
  | 43 => ⟨S1x8192, .f32⟩
  | 44 => ⟨S1x8192, .f32⟩
  | 45 => ⟨S1x8192x1, .f32⟩
  | 46 => ⟨S1x8192x64, .f32⟩
  | 47 => ⟨S1x8192x64, .f32⟩
  | 48 => ⟨S1x8192x64, .f32⟩
  | 49 => ⟨S_, .f32⟩
  | 50 => ⟨S1x8192, .f32⟩
  | 51 => ⟨S1x8192x1, .f32⟩
  | 52 => ⟨S1x8192x64, .f32⟩
  | 53 => ⟨S1x8192x64, .f32⟩
  | 54 => ⟨S1x8192x64, .i32⟩
  | 55 => ⟨S_, .f32⟩
  | 56 => ⟨S_, .i32⟩
  | 57 => ⟨S1x8192, .f32⟩
  | 58 => ⟨S1x8192, .i32⟩
  | 59 => ⟨S1x8192x1, .i32⟩
  | 60 => ⟨S1x1x64, .i32⟩
  | 61 => ⟨S1x8192x64, .i32⟩
  | 62 => ⟨S1x8192x64, .i32⟩
  | 63 => ⟨S1x8192x64, .i1⟩
  | 64 => ⟨S1x8192x64, .f32⟩
  | 65 => ⟨S1x8192x64, .f32⟩
  | 66 => ⟨S1x8192x64, .f32⟩
  | 67 => ⟨S1x8192x1, .i32⟩
  | 68 => ⟨S_, .i32⟩
  | 69 => ⟨S1x8192x1, .i32⟩
  | 70 => ⟨S1x8192x1, .i1⟩
  | 71 => ⟨S_, .i32⟩
  | 72 => ⟨S1x8192x1, .i32⟩
  | 73 => ⟨S1x8192x1, .i32⟩
  | 74 => ⟨S1x8192x1, .i32⟩
  | 75 => ⟨S8192x1x1, .i32⟩
  | 76 => ⟨S1, .i32⟩
  | 77 => ⟨S_, .i32⟩
  | 78 => ⟨S8192x1x1, .i32⟩
  | 79 => ⟨S8192x1x1, .i1⟩
  | 80 => ⟨S1x1x1, .i32⟩
  | 81 => ⟨S8192x1x1, .i32⟩
  | 82 => ⟨S8192x1x1, .i1⟩
  | 83 => ⟨S8192x1x1, .i1⟩
  | 84 => ⟨S_, .i1⟩
  | 85 => ⟨S8192x1, .i1⟩
  | 86 => ⟨S1x8192x1, .f32⟩
  | 87 => ⟨S1x8192x1, .i1⟩
  | 88 => ⟨S_, .f32⟩
  | 89 => ⟨S1x8192x1, .f32⟩
  | 90 => ⟨S1x8192x1, .f32⟩
  | 91 => ⟨S8192, .f32⟩
  | 92 => ⟨S8192, .i32⟩
  | 93 => ⟨S_, .f32⟩
  | 94 => ⟨S1, .f32⟩
  | 95 => ⟨S8194, .f32⟩
  | 96 => ⟨S8194, .i32⟩
  | _ => ⟨S16x196x64, .f32⟩

abbrev hbmTy (i : Nat) : BufTy := match i / 128 with
  | 0 => hbmTy0_0 i
  | 1 => hbmTy0_1 i
  | 2 => hbmTy0_2 i
  | _ => ⟨S16x196x64, .f32⟩

abbrev bufTy : (tb : Table) → Fin (tcTables nBuf tb) → BufTy
  | .hbm, ⟨i, _⟩ => hbmTy i
  | _, _ => ⟨S16x196x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c : Ref sig .tc := ⟨.hbm, 29, rfl⟩
abbrev main_call0_v11 : Ref sig .tc := ⟨.hbm, 30, rfl⟩
abbrev main_call0_v12 : Ref sig .tc := ⟨.hbm, 31, rfl⟩
abbrev main_call0_c_0 : Ref sig .tc := ⟨.hbm, 32, rfl⟩
abbrev main_call0_v13 : Ref sig .tc := ⟨.hbm, 33, rfl⟩
abbrev main_call0_v14 : Ref sig .tc := ⟨.hbm, 34, rfl⟩
abbrev main_call0_c_1 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_c_2 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_call0_v0 : Ref sig .tc := ⟨.hbm, 45, rfl⟩
abbrev main_call0_call0_c : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_c_0 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_c_1 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_call0_v12 : Ref sig .tc := ⟨.hbm, 60, rfl⟩
abbrev main_call0_call0_v13 : Ref sig .tc := ⟨.hbm, 61, rfl⟩
abbrev main_call0_call0_c_2 : Ref sig .tc := ⟨.hbm, 62, rfl⟩
abbrev main_call0_call0_v14 : Ref sig .tc := ⟨.hbm, 63, rfl⟩
abbrev main_call0_call0_v15 : Ref sig .tc := ⟨.hbm, 64, rfl⟩
abbrev main_call0_call0_c_3 : Ref sig .tc := ⟨.hbm, 65, rfl⟩
abbrev main_call0_call0_v16 : Ref sig .tc := ⟨.hbm, 66, rfl⟩
abbrev main_call0_call0_v17 : Ref sig .tc := ⟨.hbm, 67, rfl⟩
abbrev main_call0_call0_v18 : Ref sig .tc := ⟨.hbm, 68, rfl⟩
abbrev main_call0_call0_v19 : Ref sig .tc := ⟨.hbm, 69, rfl⟩
abbrev main_call0_call0_v20 : Ref sig .tc := ⟨.hbm, 70, rfl⟩
abbrev main_call0_call0_c_4 : Ref sig .tc := ⟨.hbm, 71, rfl⟩
abbrev main_call0_call0_v21 : Ref sig .tc := ⟨.hbm, 72, rfl⟩
abbrev main_call0_call0_v22 : Ref sig .tc := ⟨.hbm, 73, rfl⟩
abbrev main_call0_call0_c_5 : Ref sig .tc := ⟨.hbm, 74, rfl⟩
abbrev main_call0_call0_v23 : Ref sig .tc := ⟨.hbm, 75, rfl⟩
abbrev main_call0_call0_v24 : Ref sig .tc := ⟨.hbm, 76, rfl⟩
abbrev main_call0_call0_v25 : Ref sig .tc := ⟨.hbm, 77, rfl⟩
abbrev main_call0_call0_v26 : Ref sig .tc := ⟨.hbm, 78, rfl⟩
abbrev main_call0_call0_v27 : Ref sig .tc := ⟨.hbm, 79, rfl⟩
abbrev main_call0_call0_c_6 : Ref sig .tc := ⟨.hbm, 80, rfl⟩
abbrev main_call0_call0_v28 : Ref sig .tc := ⟨.hbm, 81, rfl⟩
abbrev main_call0_call0_v29 : Ref sig .tc := ⟨.hbm, 82, rfl⟩
abbrev main_call0_call0_c_7 : Ref sig .tc := ⟨.hbm, 83, rfl⟩
abbrev main_call0_call0_v30 : Ref sig .tc := ⟨.hbm, 84, rfl⟩
abbrev main_call0_call0_v31 : Ref sig .tc := ⟨.hbm, 85, rfl⟩
abbrev main_call0_call0_v32 : Ref sig .tc := ⟨.hbm, 86, rfl⟩
abbrev main_call0_call0_v33 : Ref sig .tc := ⟨.hbm, 87, rfl⟩
abbrev main_call0_call0_v34 : Ref sig .tc := ⟨.hbm, 88, rfl⟩
abbrev main_call0_call0_v35 : Ref sig .tc := ⟨.hbm, 89, rfl⟩
abbrev main_call0_call0_v36 : Ref sig .tc := ⟨.hbm, 90, rfl⟩
abbrev main_call0_call0_v37 : Ref sig .tc := ⟨.hbm, 91, rfl⟩
abbrev main_call0_call0_c_8 : Ref sig .tc := ⟨.hbm, 92, rfl⟩
abbrev main_call0_call0_v38 : Ref sig .tc := ⟨.hbm, 93, rfl⟩
abbrev main_call0_call0_v39 : Ref sig .tc := ⟨.hbm, 94, rfl⟩
abbrev main_call0_call0_v40 : Ref sig .tc := ⟨.hbm, 95, rfl⟩
abbrev main_call0_call0_c_9 : Ref sig .tc := ⟨.hbm, 96, rfl⟩
abbrev main_call0_call0_v41 : Ref sig .tc := ⟨.hbm, 97, rfl⟩
abbrev main_call0_call0_v42 : Ref sig .tc := ⟨.hbm, 98, rfl⟩
abbrev main_call0_call0_c_10 : Ref sig .tc := ⟨.hbm, 99, rfl⟩
abbrev main_call0_call0_v43 : Ref sig .tc := ⟨.hbm, 100, rfl⟩
abbrev main_call0_call0_v44 : Ref sig .tc := ⟨.hbm, 101, rfl⟩
abbrev main_call0_call0_v45 : Ref sig .tc := ⟨.hbm, 102, rfl⟩
abbrev main_call0_call0_v46 : Ref sig .tc := ⟨.hbm, 103, rfl⟩
abbrev main_call0_call0_v47 : Ref sig .tc := ⟨.hbm, 104, rfl⟩
abbrev main_call0_call0_c_11 : Ref sig .tc := ⟨.hbm, 105, rfl⟩
abbrev main_call0_call0_v48 : Ref sig .tc := ⟨.hbm, 106, rfl⟩
abbrev main_call0_call0_v49 : Ref sig .tc := ⟨.hbm, 107, rfl⟩
abbrev main_call0_call0_c_12 : Ref sig .tc := ⟨.hbm, 108, rfl⟩
abbrev main_call0_call0_v50 : Ref sig .tc := ⟨.hbm, 109, rfl⟩
abbrev main_call0_call0_v51 : Ref sig .tc := ⟨.hbm, 110, rfl⟩
abbrev main_call0_call0_v52 : Ref sig .tc := ⟨.hbm, 111, rfl⟩
abbrev main_call0_call0_v53 : Ref sig .tc := ⟨.hbm, 112, rfl⟩
abbrev main_call0_call0_v54 : Ref sig .tc := ⟨.hbm, 113, rfl⟩
abbrev main_call0_call0_c_13 : Ref sig .tc := ⟨.hbm, 114, rfl⟩
abbrev main_call0_call0_v55 : Ref sig .tc := ⟨.hbm, 115, rfl⟩
abbrev main_call0_call0_v56 : Ref sig .tc := ⟨.hbm, 116, rfl⟩
abbrev main_call0_call0_c_14 : Ref sig .tc := ⟨.hbm, 117, rfl⟩
abbrev main_call0_call0_v57 : Ref sig .tc := ⟨.hbm, 118, rfl⟩
abbrev main_call0_call0_v58 : Ref sig .tc := ⟨.hbm, 119, rfl⟩
abbrev main_call0_call0_v59 : Ref sig .tc := ⟨.hbm, 120, rfl⟩
abbrev main_call0_call0_v60 : Ref sig .tc := ⟨.hbm, 121, rfl⟩
abbrev main_call0_call0_v61 : Ref sig .tc := ⟨.hbm, 122, rfl⟩
abbrev main_call0_call0_c_15 : Ref sig .tc := ⟨.hbm, 123, rfl⟩
abbrev main_call0_call0_v62 : Ref sig .tc := ⟨.hbm, 124, rfl⟩
abbrev main_call0_call0_v63 : Ref sig .tc := ⟨.hbm, 125, rfl⟩
abbrev main_call0_call0_c_16 : Ref sig .tc := ⟨.hbm, 126, rfl⟩
abbrev main_call0_call0_v64 : Ref sig .tc := ⟨.hbm, 127, rfl⟩
abbrev main_call0_call0_v65 : Ref sig .tc := ⟨.hbm, 128, rfl⟩
abbrev main_call0_call0_v66 : Ref sig .tc := ⟨.hbm, 129, rfl⟩
abbrev main_call0_call0_v67 : Ref sig .tc := ⟨.hbm, 130, rfl⟩
abbrev main_call0_call0_v68 : Ref sig .tc := ⟨.hbm, 131, rfl⟩
abbrev main_call0_call0_v69 : Ref sig .tc := ⟨.hbm, 132, rfl⟩
abbrev main_call0_call0_v70 : Ref sig .tc := ⟨.hbm, 133, rfl⟩
abbrev main_call0_call0_v71 : Ref sig .tc := ⟨.hbm, 134, rfl⟩
abbrev main_call0_call0_c_17 : Ref sig .tc := ⟨.hbm, 135, rfl⟩
abbrev main_call0_call0_v72 : Ref sig .tc := ⟨.hbm, 136, rfl⟩
abbrev main_call0_call0_v73 : Ref sig .tc := ⟨.hbm, 137, rfl⟩
abbrev main_call0_call0_v74 : Ref sig .tc := ⟨.hbm, 138, rfl⟩
abbrev main_call0_call0_c_18 : Ref sig .tc := ⟨.hbm, 139, rfl⟩
abbrev main_call0_call0_v75 : Ref sig .tc := ⟨.hbm, 140, rfl⟩
abbrev main_call0_call0_v76 : Ref sig .tc := ⟨.hbm, 141, rfl⟩
abbrev main_call0_call0_c_19 : Ref sig .tc := ⟨.hbm, 142, rfl⟩
abbrev main_call0_call0_v77 : Ref sig .tc := ⟨.hbm, 143, rfl⟩
abbrev main_call0_call0_v78 : Ref sig .tc := ⟨.hbm, 144, rfl⟩
abbrev main_call0_call0_v79 : Ref sig .tc := ⟨.hbm, 145, rfl⟩
abbrev main_call0_call0_v80 : Ref sig .tc := ⟨.hbm, 146, rfl⟩
abbrev main_call0_call0_v81 : Ref sig .tc := ⟨.hbm, 147, rfl⟩
abbrev main_call0_call0_c_20 : Ref sig .tc := ⟨.hbm, 148, rfl⟩
abbrev main_call0_call0_v82 : Ref sig .tc := ⟨.hbm, 149, rfl⟩
abbrev main_call0_call0_v83 : Ref sig .tc := ⟨.hbm, 150, rfl⟩
abbrev main_call0_call0_c_21 : Ref sig .tc := ⟨.hbm, 151, rfl⟩
abbrev main_call0_call0_v84 : Ref sig .tc := ⟨.hbm, 152, rfl⟩
abbrev main_call0_call0_v85 : Ref sig .tc := ⟨.hbm, 153, rfl⟩
abbrev main_call0_call0_v86 : Ref sig .tc := ⟨.hbm, 154, rfl⟩
abbrev main_call0_call0_v87 : Ref sig .tc := ⟨.hbm, 155, rfl⟩
abbrev main_call0_call0_v88 : Ref sig .tc := ⟨.hbm, 156, rfl⟩
abbrev main_call0_call0_c_22 : Ref sig .tc := ⟨.hbm, 157, rfl⟩
abbrev main_call0_call0_v89 : Ref sig .tc := ⟨.hbm, 158, rfl⟩
abbrev main_call0_call0_v90 : Ref sig .tc := ⟨.hbm, 159, rfl⟩
abbrev main_call0_call0_c_23 : Ref sig .tc := ⟨.hbm, 160, rfl⟩
abbrev main_call0_call0_v91 : Ref sig .tc := ⟨.hbm, 161, rfl⟩
abbrev main_call0_call0_v92 : Ref sig .tc := ⟨.hbm, 162, rfl⟩
abbrev main_call0_call0_v93 : Ref sig .tc := ⟨.hbm, 163, rfl⟩
abbrev main_call0_call0_v94 : Ref sig .tc := ⟨.hbm, 164, rfl⟩
abbrev main_call0_call0_v95 : Ref sig .tc := ⟨.hbm, 165, rfl⟩
abbrev main_call0_call0_c_24 : Ref sig .tc := ⟨.hbm, 166, rfl⟩
abbrev main_call0_call0_v96 : Ref sig .tc := ⟨.hbm, 167, rfl⟩
abbrev main_call0_call0_v97 : Ref sig .tc := ⟨.hbm, 168, rfl⟩
abbrev main_call0_call0_c_25 : Ref sig .tc := ⟨.hbm, 169, rfl⟩
abbrev main_call0_call0_v98 : Ref sig .tc := ⟨.hbm, 170, rfl⟩
abbrev main_call0_call0_v99 : Ref sig .tc := ⟨.hbm, 171, rfl⟩
abbrev main_call0_call0_v100 : Ref sig .tc := ⟨.hbm, 172, rfl⟩
abbrev main_call0_call0_v101 : Ref sig .tc := ⟨.hbm, 173, rfl⟩
abbrev main_call0_call0_v102 : Ref sig .tc := ⟨.hbm, 174, rfl⟩
abbrev main_call0_call0_v103 : Ref sig .tc := ⟨.hbm, 175, rfl⟩
abbrev main_call0_call0_v104 : Ref sig .tc := ⟨.hbm, 176, rfl⟩
abbrev main_call0_call0_v105 : Ref sig .tc := ⟨.hbm, 177, rfl⟩
abbrev main_call0_call0_c_26 : Ref sig .tc := ⟨.hbm, 178, rfl⟩
abbrev main_call0_call0_v106 : Ref sig .tc := ⟨.hbm, 179, rfl⟩
abbrev main_call0_call0_v107 : Ref sig .tc := ⟨.hbm, 180, rfl⟩
abbrev main_call0_call0_v108 : Ref sig .tc := ⟨.hbm, 181, rfl⟩
abbrev main_call0_call0_c_27 : Ref sig .tc := ⟨.hbm, 182, rfl⟩
abbrev main_call0_call0_v109 : Ref sig .tc := ⟨.hbm, 183, rfl⟩
abbrev main_call0_call0_v110 : Ref sig .tc := ⟨.hbm, 184, rfl⟩
abbrev main_call0_call0_c_28 : Ref sig .tc := ⟨.hbm, 185, rfl⟩
abbrev main_call0_call0_v111 : Ref sig .tc := ⟨.hbm, 186, rfl⟩
abbrev main_call0_call0_v112 : Ref sig .tc := ⟨.hbm, 187, rfl⟩
abbrev main_call0_call0_v113 : Ref sig .tc := ⟨.hbm, 188, rfl⟩
abbrev main_call0_call0_v114 : Ref sig .tc := ⟨.hbm, 189, rfl⟩
abbrev main_call0_call0_v115 : Ref sig .tc := ⟨.hbm, 190, rfl⟩
abbrev main_call0_call0_c_29 : Ref sig .tc := ⟨.hbm, 191, rfl⟩
abbrev main_call0_call0_v116 : Ref sig .tc := ⟨.hbm, 192, rfl⟩
abbrev main_call0_call0_v117 : Ref sig .tc := ⟨.hbm, 193, rfl⟩
abbrev main_call0_call0_c_30 : Ref sig .tc := ⟨.hbm, 194, rfl⟩
abbrev main_call0_call0_v118 : Ref sig .tc := ⟨.hbm, 195, rfl⟩
abbrev main_call0_call0_v119 : Ref sig .tc := ⟨.hbm, 196, rfl⟩
abbrev main_call0_call0_v120 : Ref sig .tc := ⟨.hbm, 197, rfl⟩
abbrev main_call0_call0_v121 : Ref sig .tc := ⟨.hbm, 198, rfl⟩
abbrev main_call0_call0_v122 : Ref sig .tc := ⟨.hbm, 199, rfl⟩
abbrev main_call0_call0_c_31 : Ref sig .tc := ⟨.hbm, 200, rfl⟩
abbrev main_call0_call0_v123 : Ref sig .tc := ⟨.hbm, 201, rfl⟩
abbrev main_call0_call0_v124 : Ref sig .tc := ⟨.hbm, 202, rfl⟩
abbrev main_call0_call0_c_32 : Ref sig .tc := ⟨.hbm, 203, rfl⟩
abbrev main_call0_call0_v125 : Ref sig .tc := ⟨.hbm, 204, rfl⟩
abbrev main_call0_call0_v126 : Ref sig .tc := ⟨.hbm, 205, rfl⟩
abbrev main_call0_call0_v127 : Ref sig .tc := ⟨.hbm, 206, rfl⟩
abbrev main_call0_call0_v128 : Ref sig .tc := ⟨.hbm, 207, rfl⟩
abbrev main_call0_call0_v129 : Ref sig .tc := ⟨.hbm, 208, rfl⟩
abbrev main_call0_call0_c_33 : Ref sig .tc := ⟨.hbm, 209, rfl⟩
abbrev main_call0_call0_v130 : Ref sig .tc := ⟨.hbm, 210, rfl⟩
abbrev main_call0_call0_v131 : Ref sig .tc := ⟨.hbm, 211, rfl⟩
abbrev main_call0_call0_c_34 : Ref sig .tc := ⟨.hbm, 212, rfl⟩
abbrev main_call0_call0_v132 : Ref sig .tc := ⟨.hbm, 213, rfl⟩
abbrev main_call0_call0_v133 : Ref sig .tc := ⟨.hbm, 214, rfl⟩
abbrev main_call0_call0_v134 : Ref sig .tc := ⟨.hbm, 215, rfl⟩
abbrev main_call0_call0_v135 : Ref sig .tc := ⟨.hbm, 216, rfl⟩
abbrev main_call0_call0_v136 : Ref sig .tc := ⟨.hbm, 217, rfl⟩
abbrev main_call0_call0_v137 : Ref sig .tc := ⟨.hbm, 218, rfl⟩
abbrev main_call0_call0_v138 : Ref sig .tc := ⟨.hbm, 219, rfl⟩
abbrev main_call0_call0_v139 : Ref sig .tc := ⟨.hbm, 220, rfl⟩
abbrev main_call0_call0_c_35 : Ref sig .tc := ⟨.hbm, 221, rfl⟩
abbrev main_call0_call0_v140 : Ref sig .tc := ⟨.hbm, 222, rfl⟩
abbrev main_call0_call0_v141 : Ref sig .tc := ⟨.hbm, 223, rfl⟩
abbrev main_call0_call0_v142 : Ref sig .tc := ⟨.hbm, 224, rfl⟩
abbrev main_call0_call0_c_36 : Ref sig .tc := ⟨.hbm, 225, rfl⟩
abbrev main_call0_call0_v143 : Ref sig .tc := ⟨.hbm, 226, rfl⟩
abbrev main_call0_call0_v144 : Ref sig .tc := ⟨.hbm, 227, rfl⟩
abbrev main_call0_call0_c_37 : Ref sig .tc := ⟨.hbm, 228, rfl⟩
abbrev main_call0_call0_v145 : Ref sig .tc := ⟨.hbm, 229, rfl⟩
abbrev main_call0_call0_v146 : Ref sig .tc := ⟨.hbm, 230, rfl⟩
abbrev main_call0_call0_v147 : Ref sig .tc := ⟨.hbm, 231, rfl⟩
abbrev main_call0_call0_v148 : Ref sig .tc := ⟨.hbm, 232, rfl⟩
abbrev main_call0_call0_v149 : Ref sig .tc := ⟨.hbm, 233, rfl⟩
abbrev main_call0_call0_c_38 : Ref sig .tc := ⟨.hbm, 234, rfl⟩
abbrev main_call0_call0_v150 : Ref sig .tc := ⟨.hbm, 235, rfl⟩
abbrev main_call0_call0_v151 : Ref sig .tc := ⟨.hbm, 236, rfl⟩
abbrev main_call0_call0_c_39 : Ref sig .tc := ⟨.hbm, 237, rfl⟩
abbrev main_call0_call0_v152 : Ref sig .tc := ⟨.hbm, 238, rfl⟩
abbrev main_call0_call0_v153 : Ref sig .tc := ⟨.hbm, 239, rfl⟩
abbrev main_call0_call0_v154 : Ref sig .tc := ⟨.hbm, 240, rfl⟩
abbrev main_call0_call0_v155 : Ref sig .tc := ⟨.hbm, 241, rfl⟩
abbrev main_call0_call0_v156 : Ref sig .tc := ⟨.hbm, 242, rfl⟩
abbrev main_call0_call0_c_40 : Ref sig .tc := ⟨.hbm, 243, rfl⟩
abbrev main_call0_call0_v157 : Ref sig .tc := ⟨.hbm, 244, rfl⟩
abbrev main_call0_call0_v158 : Ref sig .tc := ⟨.hbm, 245, rfl⟩
abbrev main_call0_call0_c_41 : Ref sig .tc := ⟨.hbm, 246, rfl⟩
abbrev main_call0_call0_v159 : Ref sig .tc := ⟨.hbm, 247, rfl⟩
abbrev main_call0_call0_v160 : Ref sig .tc := ⟨.hbm, 248, rfl⟩
abbrev main_call0_call0_v161 : Ref sig .tc := ⟨.hbm, 249, rfl⟩
abbrev main_call0_call0_v162 : Ref sig .tc := ⟨.hbm, 250, rfl⟩
abbrev main_call0_call0_v163 : Ref sig .tc := ⟨.hbm, 251, rfl⟩
abbrev main_call0_call0_c_42 : Ref sig .tc := ⟨.hbm, 252, rfl⟩
abbrev main_call0_call0_v164 : Ref sig .tc := ⟨.hbm, 253, rfl⟩
abbrev main_call0_call0_v165 : Ref sig .tc := ⟨.hbm, 254, rfl⟩
abbrev main_call0_call0_c_43 : Ref sig .tc := ⟨.hbm, 255, rfl⟩
abbrev main_call0_call0_v166 : Ref sig .tc := ⟨.hbm, 256, rfl⟩
abbrev main_call0_call0_v167 : Ref sig .tc := ⟨.hbm, 257, rfl⟩
abbrev main_call0_call0_v168 : Ref sig .tc := ⟨.hbm, 258, rfl⟩
abbrev main_call0_call0_v169 : Ref sig .tc := ⟨.hbm, 259, rfl⟩
abbrev main_call0_call0_v170 : Ref sig .tc := ⟨.hbm, 260, rfl⟩
abbrev main_call0_v23_0 : Ref sig .tc := ⟨.hbm, 261, rfl⟩
abbrev main_call0_call0_v172 : Ref sig .tc := ⟨.hbm, 262, rfl⟩
abbrev main_call0_call0_v173 : Ref sig .tc := ⟨.hbm, 263, rfl⟩
abbrev main_call0_call0_c_44 : Ref sig .tc := ⟨.hbm, 264, rfl⟩
abbrev main_call0_call0_v174 : Ref sig .tc := ⟨.hbm, 265, rfl⟩
abbrev main_call0_v23_1 : Ref sig .tc := ⟨.hbm, 266, rfl⟩
abbrev main_call0_v24 : Ref sig .tc := ⟨.hbm, 267, rfl⟩
abbrev main_call0_c_3 : Ref sig .tc := ⟨.hbm, 268, rfl⟩
abbrev main_call0_v25 : Ref sig .tc := ⟨.hbm, 269, rfl⟩
abbrev main_call0_v26 : Ref sig .tc := ⟨.hbm, 270, rfl⟩
abbrev main_call0_c_4 : Ref sig .tc := ⟨.hbm, 271, rfl⟩
abbrev main_call0_v27 : Ref sig .tc := ⟨.hbm, 272, rfl⟩
abbrev main_call0_v28 : Ref sig .tc := ⟨.hbm, 273, rfl⟩
abbrev main_call0_v29 : Ref sig .tc := ⟨.hbm, 274, rfl⟩
abbrev main_call0_cst : Ref sig .tc := ⟨.hbm, 275, rfl⟩
abbrev main_call0_v30 : Ref sig .tc := ⟨.hbm, 276, rfl⟩
abbrev main_call0_v31 : Ref sig .tc := ⟨.hbm, 277, rfl⟩
abbrev main_call0_v32 : Ref sig .tc := ⟨.hbm, 278, rfl⟩
abbrev main_call0_v33 : Ref sig .tc := ⟨.hbm, 279, rfl⟩
abbrev main_call0_v34 : Ref sig .tc := ⟨.hbm, 280, rfl⟩
abbrev main_call0_v35 : Ref sig .tc := ⟨.hbm, 281, rfl⟩
abbrev main_call0_v36 : Ref sig .tc := ⟨.hbm, 282, rfl⟩
abbrev main_call0_v37 : Ref sig .tc := ⟨.hbm, 283, rfl⟩
abbrev main_v8 : Ref sig .tc := ⟨.hbm, 284, rfl⟩
abbrev main_cst_5 : Ref sig .tc := ⟨.hbm, 285, rfl⟩
abbrev main_v9 : Ref sig .tc := ⟨.hbm, 286, rfl⟩
abbrev main_v10 : Ref sig .tc := ⟨.hbm, 287, rfl⟩
abbrev main_v11 : Ref sig .tc := ⟨.hbm, 288, rfl⟩
abbrev main_v12 : Ref sig .tc := ⟨.hbm, 289, rfl⟩
abbrev main_v13 : Ref sig .tc := ⟨.hbm, 290, rfl⟩
abbrev main_v14 : Ref sig .tc := ⟨.hbm, 291, rfl⟩
abbrev main_v15 : Ref sig .tc := ⟨.hbm, 292, rfl⟩
abbrev main_cst_6 : Ref sig .tc := ⟨.hbm, 293, rfl⟩
abbrev main_v16 : Ref sig .tc := ⟨.hbm, 294, rfl⟩
abbrev main_v17 : Ref sig .tc := ⟨.hbm, 295, rfl⟩
abbrev main_cst_7 : Ref sig .tc := ⟨.hbm, 296, rfl⟩
abbrev main_v18 : Ref sig .tc := ⟨.hbm, 297, rfl⟩
abbrev main_cst_8 : Ref sig .tc := ⟨.hbm, 298, rfl⟩
abbrev main_v19 : Ref sig .tc := ⟨.hbm, 299, rfl⟩
abbrev main_v20 : Ref sig .tc := ⟨.hbm, 300, rfl⟩
abbrev main_v21 : Ref sig .tc := ⟨.hbm, 301, rfl⟩
abbrev main_v22 : Ref sig .tc := ⟨.hbm, 302, rfl⟩
abbrev main_v23 : Ref sig .tc := ⟨.hbm, 303, rfl⟩
abbrev main_v24 : Ref sig .tc := ⟨.hbm, 304, rfl⟩
abbrev main_cst_9 : Ref sig .tc := ⟨.hbm, 305, rfl⟩
abbrev main_v25 : Ref sig .tc := ⟨.hbm, 306, rfl⟩
abbrev main_v26 : Ref sig .tc := ⟨.hbm, 307, rfl⟩
abbrev main_v27 : Ref sig .tc := ⟨.hbm, 308, rfl⟩
abbrev main_v28 : Ref sig .tc := ⟨.hbm, 309, rfl⟩
abbrev main_call1_v0 : Ref sig .tc := ⟨.hbm, 310, rfl⟩
abbrev main_call1_cst : Ref sig .tc := ⟨.hbm, 311, rfl⟩
abbrev main_call1_c : Ref sig .tc := ⟨.hbm, 312, rfl⟩
abbrev main_call1_v1_0 : Ref sig .tc := ⟨.hbm, 313, rfl⟩
abbrev main_v29 : Ref sig .tc := ⟨.hbm, 314, rfl⟩
abbrev main_call2_v0 : Ref sig .tc := ⟨.hbm, 315, rfl⟩
abbrev main_call2_v1 : Ref sig .tc := ⟨.hbm, 316, rfl⟩
abbrev main_call2_v2 : Ref sig .tc := ⟨.hbm, 317, rfl⟩
abbrev main_call2_v3 : Ref sig .tc := ⟨.hbm, 318, rfl⟩
abbrev main_call2_v4 : Ref sig .tc := ⟨.hbm, 319, rfl⟩
abbrev main_v30 : Ref sig .tc := ⟨.hbm, 320, rfl⟩
abbrev main_v31 : Ref sig .tc := ⟨.hbm, 321, rfl⟩
abbrev main_v32 : Ref sig .tc := ⟨.hbm, 322, rfl⟩
abbrev main_v33 : Ref sig .tc := ⟨.hbm, 323, rfl⟩
abbrev main_call3_c : Ref sig .tc := ⟨.hbm, 324, rfl⟩
abbrev main_call3_v0 : Ref sig .tc := ⟨.hbm, 325, rfl⟩
abbrev main_call3_v1 : Ref sig .tc := ⟨.hbm, 326, rfl⟩
abbrev main_call3_c_0 : Ref sig .tc := ⟨.hbm, 327, rfl⟩
abbrev main_call3_v2 : Ref sig .tc := ⟨.hbm, 328, rfl⟩
abbrev main_call3_v3 : Ref sig .tc := ⟨.hbm, 329, rfl⟩
abbrev main_call3_v4 : Ref sig .tc := ⟨.hbm, 330, rfl⟩
abbrev main_call3_v5 : Ref sig .tc := ⟨.hbm, 331, rfl⟩
abbrev main_call3_c_1 : Ref sig .tc := ⟨.hbm, 332, rfl⟩
abbrev main_call3_c_2 : Ref sig .tc := ⟨.hbm, 333, rfl⟩
abbrev main_call3_v6 : Ref sig .tc := ⟨.hbm, 334, rfl⟩
abbrev main_call3_v7 : Ref sig .tc := ⟨.hbm, 335, rfl⟩
abbrev main_call3_v8 : Ref sig .tc := ⟨.hbm, 336, rfl⟩
abbrev main_call3_v9 : Ref sig .tc := ⟨.hbm, 337, rfl⟩
abbrev main_call3_v10 : Ref sig .tc := ⟨.hbm, 338, rfl⟩
abbrev main_call3_v11 : Ref sig .tc := ⟨.hbm, 339, rfl⟩
abbrev main_call3_c_3 : Ref sig .tc := ⟨.hbm, 340, rfl⟩
abbrev main_call3_v12 : Ref sig .tc := ⟨.hbm, 341, rfl⟩
abbrev main_call3_v13 : Ref sig .tc := ⟨.hbm, 342, rfl⟩
abbrev main_call3_v14 : Ref sig .tc := ⟨.hbm, 343, rfl⟩
abbrev main_call3_cst : Ref sig .tc := ⟨.hbm, 344, rfl⟩
abbrev main_call3_v15 : Ref sig .tc := ⟨.hbm, 345, rfl⟩
abbrev main_v34 : Ref sig .tc := ⟨.hbm, 346, rfl⟩
abbrev main_v35 : Ref sig .tc := ⟨.hbm, 347, rfl⟩
abbrev main_v36 : Ref sig .tc := ⟨.hbm, 348, rfl⟩
abbrev main_cst_10 : Ref sig .tc := ⟨.hbm, 349, rfl⟩
abbrev main_v37 : Ref sig .tc := ⟨.hbm, 350, rfl⟩
abbrev main_v38 : Ref sig .tc := ⟨.hbm, 351, rfl⟩
abbrev main_v39 : Ref sig .tc := ⟨.hbm, 352, rfl⟩

abbrev nD : Nat := 1
abbrev τ : Topo := Topo.v7x

variable {F : FTy → Type} [FloatOps F]
-- ==== Proof.Row.lean ====
/-
  One row of the problem over the extended reals: sixty-four perturbed logits `z` whose greatest value `M` is a real
  number, first attained at place `k`.

  The exponentials of the differences to `M` are then real numbers between zero and one, and one exactly where `z` is
  `M`; their sum is a real number at least one; so the softmax values are real, they equal one over that sum exactly
  where `z` is `M`, and they are less than it elsewhere. From this follow the two readings of the row that the programs
  take: the least place whose softmax value equals one over the sum is `k` (`least_place`), and the fold that keeps the
  greater value, and of equal values the smaller place, ends at `k` (`fold_place`).
-/
module

public import Idealize.ShloMosaic.PureOps.Ideal
public import Mathlib.Analysis.SpecialFunctions.Exp

@[expose] public section

noncomputable section

namespace Cert.Proof.Row

open Idealize.ShloMosaic

/-- The greatest of the sixty-four values is the real number `M`, and `k` is the first place that attains it. -/
structure Top (z : Fin 64 → EReal) (k : Fin 64) (M : ℝ) : Prop where
  at_k : z k = (M : EReal)
  le : ∀ d, z d ≤ (M : EReal)
  lt : ∀ d, d < k → z d < (M : EReal)

/-- A row whose maximum is a real number has a first place that attains it. -/
theorem exists_top {z : Fin 64 → EReal} {M : ℝ} (h : (Finset.univ : Finset (Fin 64)).fold max ⊥ z = (M : EReal)) :
    ∃ k, Top z k M := by
  have hle : ∀ d, z d ≤ (M : EReal) := fun d => by
    rw [← h]; exact Finset.le_fold_max _ |>.mpr (.inr ⟨d, Finset.mem_univ d, le_rfl⟩)
  have hne : (Finset.univ.filter fun d => z d = (M : EReal)).Nonempty := by
    have h' : (M : EReal) ≤ (Finset.univ : Finset (Fin 64)).fold max ⊥ z := h.ge
    rcases Finset.le_fold_max _ |>.mp h' with hb | ⟨d, -, hd⟩
    · exact absurd hb (by simp)
    · exact ⟨d, by simp [le_antisymm (hle d) hd]⟩
  refine ⟨(Finset.univ.filter fun d => z d = (M : EReal)).min' hne, ?_, hle, fun d hd => lt_of_le_of_ne (hle d) fun he => ?_⟩
  · simpa using Finset.min'_mem _ hne
  · exact absurd (Finset.min'_le _ d (by simp [he])) (not_le.mpr hd)

/-- The fold of `max` over a row with a `Top` is that real number. -/
theorem Top.fold {z : Fin 64 → EReal} {k : Fin 64} {M : ℝ} (h : Top z k M) :
    (Finset.univ : Finset (Fin 64)).fold max ⊥ z = (M : EReal) :=
  le_antisymm (Finset.fold_max_le _ |>.mpr ⟨bot_le, fun d _ => h.le d⟩)
    (Finset.le_fold_max _ |>.mpr (.inr ⟨k, Finset.mem_univ k, h.at_k.ge⟩))

/-- The exponential of a value's difference to the row's maximum. -/
def ex (z : Fin 64 → EReal) (M : ℝ) (d : Fin 64) : EReal := Ideal.exp (z d - (M : EReal))

/-- The same as a real number: zero where the logit is minus infinity. -/
def rx (z : Fin 64 → EReal) (M : ℝ) (d : Fin 64) : ℝ := (ex z M d).toReal

/-- The sum of the row's exponentials. -/
def rs (z : Fin 64 → EReal) (M : ℝ) : ℝ := ∑ d, rx z M d

variable {z : Fin 64 → EReal} {k : Fin 64} {M : ℝ}

theorem Top.cases (h : Top z k M) (d : Fin 64) : z d = ⊥ ∨ ∃ r : ℝ, z d = (r : EReal) ∧ r ≤ M := by
  have hle := h.le d
  induction hz : z d using EReal.rec with
  | bot => exact .inl rfl
  | top => rw [hz] at hle; exact absurd hle (by simp)
  | coe r => rw [hz] at hle; exact .inr ⟨r, rfl, EReal.coe_le_coe_iff.mp hle⟩

theorem Top.ex_eq (h : Top z k M) (d : Fin 64) : ex z M d = (rx z M d : EReal) := by
  unfold rx ex
  rcases h.cases d with hd | ⟨r, hd, -⟩
  · simp [hd]
  · rw [hd, ← EReal.coe_sub, Ideal.exp_coe, EReal.toReal_coe]

theorem Top.rx_nonneg (h : Top z k M) (d : Fin 64) : 0 ≤ rx z M d := by
  unfold rx ex
  rcases h.cases d with hd | ⟨r, hd, -⟩
  · simp [hd]
  · rw [hd, ← EReal.coe_sub, Ideal.exp_coe, EReal.toReal_coe]; exact (Real.exp_pos _).le

theorem Top.rx_le_one (h : Top z k M) (d : Fin 64) : rx z M d ≤ 1 := by
  unfold rx ex
  rcases h.cases d with hd | ⟨r, hd, hr⟩
  · simp [hd]
  · rw [hd, ← EReal.coe_sub, Ideal.exp_coe, EReal.toReal_coe, Real.exp_le_one_iff]; linarith

theorem Top.rx_eq_one (h : Top z k M) (d : Fin 64) : rx z M d = 1 ↔ z d = (M : EReal) := by
  unfold rx ex
  rcases h.cases d with hd | ⟨r, hd, hr⟩
  · simp [hd]
  · rw [hd, ← EReal.coe_sub, Ideal.exp_coe, EReal.toReal_coe, Real.exp_eq_one_iff, EReal.coe_eq_coe_iff, sub_eq_zero]

theorem Top.one_le_rs (h : Top z k M) : 1 ≤ rs z M := by
  have hk : rx z M k = 1 := (h.rx_eq_one k).mpr h.at_k
  calc (1 : ℝ) = rx z M k := hk.symm
    _ ≤ rs z M := Finset.single_le_sum (fun d _ => h.rx_nonneg d) (Finset.mem_univ k)

theorem Top.rs_pos (h : Top z k M) : 0 < rs z M := lt_of_lt_of_le one_pos h.one_le_rs

/-- The sum of the exponentials, as the programs take it. -/
theorem Top.sum_ex (h : Top z k M) : ∑ d, ex z M d = (rs z M : EReal) := by
  rw [Finset.sum_congr rfl fun d _ => h.ex_eq d]
  exact (map_sum (⟨⟨Real.toEReal, EReal.coe_zero⟩, EReal.coe_add⟩ : ℝ →+ EReal) (rx z M) Finset.univ).symm

/-- A quotient of real numbers by a positive one is that of the extended reals. -/
theorem div_coe (a : ℝ) {b : ℝ} (hb : 0 < b) : Ideal.div (a : EReal) (b : EReal) = ((a / b : ℝ) : EReal) := by
  rw [Ideal.div, if_neg (by simpa using hb.ne'), ← EReal.coe_inv, ← EReal.coe_mul, div_eq_mul_inv]

theorem Top.y_eq (h : Top z k M) (d : Fin 64) :
    Ideal.div (ex z M d) (rs z M : EReal) = ((rx z M d / rs z M : ℝ) : EReal) := by
  rw [h.ex_eq, div_coe _ h.rs_pos]

theorem Top.m_eq (h : Top z k M) : Ideal.div 1 (rs z M : EReal) = ((1 / rs z M : ℝ) : EReal) := by
  rw [← EReal.coe_one, div_coe _ h.rs_pos]

/-- A softmax value equals one over the sum exactly where the logit is the row's maximum. -/
theorem Top.y_eq_m (h : Top z k M) (d : Fin 64) :
    Ideal.div (ex z M d) (rs z M : EReal) = Ideal.div 1 (rs z M : EReal) ↔ z d = (M : EReal) := by
  rw [h.y_eq, h.m_eq, EReal.coe_eq_coe_iff, div_left_inj' h.rs_pos.ne', h.rx_eq_one]

theorem Top.y_le (h : Top z k M) (d : Fin 64) :
    Ideal.div (ex z M d) (rs z M : EReal) ≤ Ideal.div (ex z M k) (rs z M : EReal) := by
  rw [h.y_eq, h.y_eq, EReal.coe_le_coe_iff, div_le_div_iff_of_pos_right h.rs_pos, (h.rx_eq_one k).mpr h.at_k]
  exact h.rx_le_one d

theorem Top.y_lt (h : Top z k M) (d : Fin 64) (hd : d < k) :
    Ideal.div (ex z M d) (rs z M : EReal) < Ideal.div (ex z M k) (rs z M : EReal) := by
  refine lt_of_le_of_ne (h.y_le d) fun he => (h.lt d hd).ne ?_
  rw [← h.y_eq_m, he, h.y_eq_m, h.at_k]

theorem Top.bot_lt_y (h : Top z k M) (d : Fin 64) : ⊥ < Ideal.div (ex z M d) (rs z M : EReal) := by
  rw [h.y_eq]; exact EReal.bot_lt_coe _

/-- `(1 - a) + a` is one for a real `a`. -/
theorem one_sub_add (a : ℝ) : (1 : EReal) - (a : EReal) + (a : EReal) = 1 := by
  rw [← EReal.coe_one, ← EReal.coe_sub, ← EReal.coe_add]; simp

/-- The least place whose softmax value equals one over the sum, sixty-four standing for the other places, is `k`. -/
theorem Top.least_place (h : Top z k M) :
    (Finset.univ : Finset (Fin 64)).fold min ⊤
        (fun d => if Ideal.div (ex z M d) (rs z M : EReal) = Ideal.div 1 (rs z M : EReal) then (((d.val : ℕ) : ℝ) : EReal) else ((64 : ℝ) : EReal))
      = (((k.val : ℕ) : ℝ) : EReal) := by
  refine le_antisymm (Finset.fold_min_le _ |>.mpr (.inr ⟨k, Finset.mem_univ k, ?_⟩))
    (Finset.le_fold_min _ |>.mpr ⟨le_top, fun d _ => ?_⟩)
  · rw [if_pos ((h.y_eq_m k).mpr h.at_k)]
  · split
    · next hd =>
      have : ¬d < k := fun hlt => (h.lt d hlt).ne ((h.y_eq_m d).mp hd)
      rw [EReal.coe_le_coe_iff]; exact_mod_cast not_lt.mp this
    · rw [EReal.coe_le_coe_iff]; have := k.isLt; exact_mod_cast this.le

/-- A place below sixty-four survives the conversion to a 32-bit integer. -/
theorem fptosi_place (d : Fin 64) : Ideal.fptosi 32 (((d.val : ℕ) : ℝ) : EReal) = BitVec.ofNat 32 d.val := by
  have h : Ideal.toIntClamped (-(2 ^ (32 - 1) : Nat)) ((2 ^ (32 - 1) : Nat) - 1) (((d.val : ℕ) : ℝ) : EReal) = (d.val : ℤ) := by
    show max _ (min _ (if (0 : ℝ) ≤ ((d.val : ℕ) : ℝ) then ⌊((d.val : ℕ) : ℝ)⌋ else ⌈((d.val : ℕ) : ℝ)⌉)) = _
    rw [if_pos (Nat.cast_nonneg _), Int.floor_natCast]
    have := d.isLt
    norm_num
    omega
  rw [Ideal.fptosi, h, BitVec.ofInt_natCast]

/-- One step of the fold that keeps the greater value, and of equal values the smaller place. -/
def pick (a b : EReal × BitVec 32) : EReal × BitVec 32 :=
  (if b.1 < a.1 then a.1 else b.1, if b.1 < a.1 ∨ (a.1 = b.1 ∧ a.2.toInt < b.2.toInt) then a.2 else b.2)

/-- `p` is at least as good as `q`: its value is greater, or equal at a place no greater. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans {p q r : EReal × BitVec 32} (h : Beats p q) (h' : Beats q r) : Beats p r := by
  rcases h with h | ⟨h, g⟩ <;> rcases h' with h' | ⟨h', g'⟩
  · exact .inl (h'.trans h)
  · exact .inl (h' ▸ h)
  · exact .inl (h ▸ h')
  · exact .inr ⟨h'.trans h, g.trans g'⟩

theorem pick_spec (a b : EReal × BitVec 32) : (pick a b = a ∨ pick a b = b) ∧ Beats (pick a b) a ∧ Beats (pick a b) b := by
  unfold pick Beats
  rcases lt_trichotomy b.1 a.1 with h | h | h
  · simp [h]
  · by_cases h2 : a.2.toInt < b.2.toInt
    · simp [h, h2, h2.le, Prod.ext_iff]
    · simp [h, h2, not_lt.mp h2, Prod.ext_iff]
  · simp [h, h.not_gt, h.ne]

/-- The fold's result is one of the pairs it met and beats them all. -/
theorem foldl_pick (l : List (EReal × BitVec 32)) : ∀ a, l.foldl pick a ∈ a :: l ∧ ∀ q ∈ a :: l, Beats (l.foldl pick a) q := by
  induction l with
  | nil => intro a; simp [Beats.refl]
  | cons b l ih =>
    intro a
    obtain ⟨hm, hb⟩ := ih (pick a b)
    obtain ⟨hp, ha', hb'⟩ := pick_spec a b
    have h0 := hb (pick a b) (by simp)
    refine ⟨?_, fun q hq => ?_⟩
    · rw [List.foldl_cons]
      rcases List.mem_cons.mp hm with h | h
      · rw [h]; rcases hp with h' | h' <;> simp [h']
      · simp [h]
    · rw [List.foldl_cons]
      rcases List.mem_cons.mp hq with rfl | hq
      · exact h0.trans ha'
      · rcases List.mem_cons.mp hq with rfl | hq
        · exact h0.trans hb'
        · exact hb q (by simp [hq])

/-- Over the pairs of a row's softmax values and places, in any order, from minus infinity, the fold ends at `k`. -/
theorem Top.fold_place (h : Top z k M) (l : List (EReal × BitVec 32)) (i : BitVec 32)
    (hl : ∀ p, p ∈ l ↔ ∃ d : Fin 64, p = (Ideal.div (ex z M d) (rs z M : EReal), BitVec.ofNat 32 d.val)) :
    (l.foldl pick (⊥, i)).2 = BitVec.ofNat 32 k.val := by
  obtain ⟨hm, hb⟩ := foldl_pick l (⊥, i)
  have hk := hb _ (List.mem_cons_of_mem _ ((hl _).mpr ⟨k, rfl⟩))
  have hd : ∃ d : Fin 64, l.foldl pick (⊥, i) = (Ideal.div (ex z M d) (rs z M : EReal), BitVec.ofNat 32 d.val) := by
    rcases List.mem_cons.mp hm with h0 | h0
    · exfalso
      rw [h0] at hk
      have hy := h.bot_lt_y k
      rcases hk with hk | ⟨hk, -⟩
      · exact absurd hk (not_lt.mpr bot_le)
      · exact hy.ne hk.symm
    · exact (hl _).mp h0
  obtain ⟨d, hd⟩ := hd
  have hint : ∀ e : Fin 64, (BitVec.ofNat 32 e.val).toInt = (e.val : ℤ) := by decide
  rw [hd] at hk ⊢
  show BitVec.ofNat 32 d.val = _
  rcases hk with hk | ⟨hk, hle⟩
  · exact absurd hk (not_lt.mpr (h.y_le d))
  · dsimp only at hk hle
    rw [hint, hint] at hle
    have : ¬d < k := fun hlt => (h.y_lt d hlt).ne hk.symm
    have : d = k := Fin.ext (by have := not_lt.mp this; omega)
    rw [this]

end Cert.Proof.Row

end
-- ==== Proof.KerBlock.lean ====
/-
  One block of the kernel at the ideal numbers, lane by lane: where the lane's sixty-four perturbed logits have a greatest
  value that is a real number, the block's first result is one there and its second the first place of that value.
-/
module

public import proofs.«01_k».proof.Proof.Row
public import proofs.«01_k».proof.Proof.Gen.KernelIdeal.Skeleton
public import Idealize.ShloMosaic.PureOps.Ideal.Laws
public import Idealize.ShloMosaic.Lib.ValueIdx
public import Idealize.ShloMosaic.Lib.IdealHost
public import Idealize.ShloMosaic.Lib.Pipeline.Value

@[expose] public section

noncomputable section

namespace Cert.Proof.Ker

open Cert.KernelIdeal Cert.KernelIdeal.Gen
open Idealize.ShloMosaic Idealize.ShloMosaic.TcCoe Idealize.ShloMosaic.ValueIdx
open Cert.Proof.Row

/-- A lane's perturbed logits: its logits less its noise. -/
def lane (w u : FVec Ideal S64x1024 .f32) (i : Fin 1024) (d : Fin 64) : EReal :=
  w (ix2 d i) - Ideal.log (-Ideal.log (u (ix2 d i)))

theorem lift_eq (i : Fin 1024) (d : Fin 64) : reduces_S64x1024_S1024.lift (ix1 i) d = ix2 d i := by
  funext a
  refine Fin.ext (Eq.trans (Shape.Reduces.lift_val reduces_S64x1024_S1024 (ix1 i) d a) ?_)
  match a with
  | ⟨0, _⟩ => rfl
  | ⟨1, _⟩ => rfl

theorem row_apply (v : FVec Ideal S1024 .f32) (i : Fin 1024) : shapeCast S1x1024 v shapeCasts_S1024_S1x1024 (ix2 0 i) = v (ix1 i) := by
  rw [shapeCast_addUnit_apply ![1024]]
  exact congrArg v (funext fun a => by match a with | ⟨0, _⟩ => rfl)

theorem flat_apply (v : FVec Ideal S1x1024 .f32) (i : Fin 1024) : shapeCast S1024 v shapeCasts_S1x1024_S1024 (ix1 i) = v (ix2 0 i) := by
  rw [shapeCast_dropUnit_apply ![1024]]
  exact congrArg v (funext fun a => by match a with | ⟨0, _⟩ => rfl | ⟨1, _⟩ => rfl)

theorem stack_apply (v : FVec Ideal S1x1024 .f32) (d : Fin 64) (i : Fin 1024) :
    broadcastTo S64x1024 v broadcasts_S1x1024_S64x1024 (ix2 d i) = v (ix2 0 i) := by
  refine broadcastTo_apply v _ _ _ fun a => ?_
  match a with
  | ⟨0, _⟩ => rfl
  | ⟨1, _⟩ => rfl

/-- A column's greatest value. -/
theorem max_apply (v : FVec Ideal S64x1024 .f32) (i : Fin 1024) :
    (multiReduction .maximumf [0] S1024 v 0xFF800000#32 reduces_S64x1024_S1024 (.inl rfl) rfl (ix1 i) : EReal)
      = (Finset.univ : Finset (Fin 64)).fold max ⊥ (fun d => v (ix2 d i)) := by
  refine (Ideal.multiReduction_maximumf_single v _ reduces_S64x1024_S1024 _ _ (ix1 i)).trans ?_
  refine congrArg₂ (fun b f => Finset.fold max b f (Finset.univ : Finset (Fin 64))) ?_ (funext fun d => ?_)
  · show Ideal.ieee 8 23 0xFF800000#32 = ⊥
    simp [Ideal.ieee]
  · exact congrArg v (lift_eq i d)

/-- A column's least value. -/
theorem min_apply (v : FVec Ideal S64x1024 .f32) (i : Fin 1024) :
    (multiReduction .minimumf [0] S1024 v 0x7F800000#32 reduces_S64x1024_S1024 (.inl rfl) rfl (ix1 i) : EReal)
      = (Finset.univ : Finset (Fin 64)).fold min ⊤ (fun d => v (ix2 d i)) := by
  refine (multiReduction_minimumf_eq_fold v _ reduces_S64x1024_S1024 _ _ (ix1 i)).trans ?_
  refine (reduces_S64x1024_S1024.fold_filter_drop_single _ _ v (ix1 i)).trans ?_
  refine congrArg₂ (fun b f => Finset.fold min b f (Finset.univ : Finset (Fin 64))) ?_ (funext fun d => ?_)
  · show Ideal.ieee 8 23 0x7F800000#32 = ⊤
    simp [Ideal.ieee]
  · exact congrArg v (lift_eq i d)

/-- A column's sum. -/
theorem sum_apply (v : FVec Ideal S64x1024 .f32) (i : Fin 1024) :
    (multiReduction .add [0] S1024 v 0x00000000#32 reduces_S64x1024_S1024 (.inl rfl) rfl (ix1 i) : EReal)
      = ∑ d : Fin 64, v (ix2 d i) :=
  (Ideal.multiReduction_add_single v _ reduces_S64x1024_S1024 _ _ (ix1 i)).trans
    (Finset.sum_congr rfl fun d _ => congrArg v (lift_eq i d))

variable {w u : FVec Ideal S64x1024 .f32} {i : Fin 1024} {k : Fin 64} {M : ℝ}

theorem pay2_apply (h : Top (lane w u i) k M) (d : Fin 64) : (k0_pay2 (F := Ideal) w u (ix2 d i) : EReal) = ex (lane w u i) M d := by
  have hz : ∀ d, (subf (shapeCast S64x1024 w shapeCasts_S64x1024_S64x1024)
      (log (subf (broadcast S64x1024 (Scalar.ofBits .f32 0x00000000#32))
        (log (shapeCast S64x1024 u shapeCasts_S64x1024_S64x1024)))) (ix2 d i) : EReal) = lane w u i d := fun d => by
    rw [shapeCast_self, shapeCast_self]
    show w (ix2 d i) - Ideal.log (Ideal.ofBits .f32 0x00000000#32 - Ideal.log (u (ix2 d i))) = _
    rw [Ideal.ofBits_zero_f32, zero_sub]
    rfl
  refine (congrArg₂ (fun a b : EReal => Ideal.exp (a - b)) (hz d)
    ((stack_apply _ d i).trans ((row_apply _ i).trans (max_apply _ i)))).trans ?_
  unfold ex
  congr 2
  rw [← h.fold]
  exact congrArg (fun f => Finset.fold max ⊥ f (Finset.univ : Finset (Fin 64))) (funext hz)

theorem pay3_apply (h : Top (lane w u i) k M) : (k0_pay3 (F := Ideal) w u (ix2 0 i) : EReal) = (rs (lane w u i) M : EReal) := by
  refine ((row_apply _ i).trans (sum_apply _ i)).trans ?_
  rw [← h.sum_ex]
  exact Finset.sum_congr rfl fun d _ => pay2_apply h d

theorem pay4_apply (h : Top (lane w u i) k M) :
    (k0_pay4 (F := Ideal) w u (ix2 0 i) : EReal) = Ideal.div 1 (rs (lane w u i) M : EReal) := by
  unfold k0_pay4
  rw [divf_apply, broadcast_apply, pay3_apply h]
  exact congrArg (fun a => Ideal.div a _) Ideal.ofBits_one_f32

/-- The block's first result is one. -/
theorem pay5_apply (h : Top (lane w u i) k M) : (k0_pay5 (F := Ideal) w u (ix1 i) : EReal) = 1 := by
  unfold k0_pay5
  refine (flat_apply _ i).trans ?_
  rw [addf_apply, subf_apply, broadcast_apply, pay4_apply h, h.m_eq]
  exact (congrArg (fun a : EReal => a - _ + _) Ideal.ofBits_one_f32).trans (one_sub_add _)

theorem iota_apply (d : Fin 64) : (k0_pay1 (F := Ideal) (ix2 d i) : EReal) = (((d.val : ℕ) : ℝ) : EReal) := by
  have hint : ∀ e : Fin 64, (BitVec.ofNat 32 (0 * 64 + e.val)).toInt = (e.val : ℤ) := by decide
  show (((BitVec.ofNat 32 (0 * 64 + d.val)).toInt : ℝ) : EReal) = _
  rw [hint]
  norm_cast

theorem ofBits_64 : Ideal.ofBits .f32 0x42800000#32 = ((64 : ℝ) : EReal) := by
  show Ideal.ieee 8 23 0x42800000#32 = _
  simp only [Ideal.ieee, show (BitVec.extractLsb' (8 + 23) 1 0x42800000#32 == 1#1) = false by decide,
    show (BitVec.extractLsb' 23 8 0x42800000#32).toNat = 133 by decide, show (BitVec.extractLsb' 0 23 0x42800000#32).toNat = 0 by decide]
  norm_num

/-- The block's second result is the first place of the greatest value. -/
theorem pay6_apply (h : Top (lane w u i) k M) : k0_pay6 (F := Ideal) w u (ix1 i) = BitVec.ofNat 32 k.val := by
  rw [← fptosi_place, ← h.least_place]
  refine congrArg (Ideal.fptosi 32) ((flat_apply _ i).trans ((row_apply _ i).trans ((min_apply _ i).trans ?_)))
  refine congrArg (fun f => Finset.fold min ⊤ f (Finset.univ : Finset (Fin 64))) (funext fun d => ?_)
  have hc : (divf (k0_pay2 (F := Ideal) w u) (broadcastTo S64x1024 (k0_pay3 (F := Ideal) w u) broadcasts_S1x1024_S64x1024) (ix2 d i) : EReal)
      = Ideal.div (ex (lane w u i) M d) (rs (lane w u i) M : EReal) := by
    rw [divf_apply, stack_apply, pay3_apply h, pay2_apply h]
  have hm : (broadcastTo S64x1024 (k0_pay4 (F := Ideal) w u) broadcasts_S1x1024_S64x1024 (ix2 d i) : EReal)
      = Ideal.div 1 (rs (lane w u i) M : EReal) := by
    rw [stack_apply, pay4_apply h]
  rw [select_apply, broadcast_apply, iota_apply, cmpf_apply, show (Scalar.ofBits .f32 0x42800000#32 : Ideal .f32) = ((64 : ℝ) : EReal) from ofBits_64]
  rw [hc, hm, Ideal.cmpf_def]
  unfold Scalar.select Ideal.cmp
  by_cases he : Ideal.div (ex (lane w u i) M d) (rs (lane w u i) M : EReal) = Ideal.div 1 (rs (lane w u i) M : EReal)
  · simp [he]
  · simp [he]

end Cert.Proof.Ker

end
-- ==== Proof.KerRun.lean ====
/-
  The kernel's stores, as the run lists them: each block stores what the first block's operations make of its own slices
  of the two operands, and two further elements go before the first block and after the last.
-/
module

public import proofs.«01_k».proof.Proof.Gen.KernelIdeal.Frame.RunA

@[expose] public section

noncomputable section

namespace Cert.Proof.Ker

open Cert.KernelIdeal Cert.KernelIdeal.Gen
open Idealize.ShloMosaic Idealize.ShloMosaic.TcCoe

variable {F : FTy → Type} [FloatOps F]

/-- A block's slice of an operand: 64 rows of 1024 lanes from lane `o` on. -/
abbrev slice (a : Memref sig .tc .vmem S64x8192 .f32) (h : a.IsWhole) (x : Vec F S64x8192 .f32) (o : ℕ)
    (inb : ∀ d, (![0, o] : Fin 2 → ℕ) d + S64x1024.size d ≤ S64x8192.size d) : Vec F S64x1024 .f32 :=
  View.readAt (Elt F) a.view (Rect.unit (s := S64x8192) ![0, o] S64x1024.size inb).toLoadRect (h.unread x)

variable (c : Dev nD) (arg0 : Memref sig .tc .vmem S64x8192 .f32) (h0 : arg0.IsWhole) (arg1 : Memref sig .tc .vmem S64x8192 .f32)
  (h1 : arg1.IsWhole) (arg2 : Memref sig .tc .vmem S8194 .f32) (h2 : arg2.IsWhole) (arg3 : Memref sig .tc .vmem S8194 .i32)
  (h3 : arg3.IsWhole) (x0 x1 : Vec F S64x8192 .f32)

/-- A block of the first result, at its place. -/
abbrev pieceF (o p : ℕ) (inb : ∀ d, (![0, o] : Fin 2 → ℕ) d + S64x1024.size d ≤ S64x8192.size d)
    (inb' : ∀ d, (![p] : Fin 1 → ℕ) d + S1024.size d ≤ S8194.size d) : View.Piece (Elt F) S8194 .f32 :=
  ⟨Rect.unit (s := S8194) ![p] S1024.size inb', k0_pay5 (slice arg0 h0 x0 o inb) (slice arg1 h1 x1 o inb)⟩

/-- A block of the second result, at its place. -/
abbrev pieceI (o p : ℕ) (inb : ∀ d, (![0, o] : Fin 2 → ℕ) d + S64x1024.size d ≤ S64x8192.size d)
    (inb' : ∀ d, (![p] : Fin 1 → ℕ) d + S1024.size d ≤ S8194.size d) : View.Piece (Elt F) S8194 .i32 :=
  ⟨Rect.unit (s := S8194) ![p] S1024.size inb', k0_pay6 (slice arg0 h0 x0 o inb) (slice arg1 h1 x1 o inb)⟩

theorem stores_f : (kernelRun0_A c arg0 h0 arg1 h1 arg2 h2 arg3 h3 x0 x1).1 =
    [⟨Rect.unit ![8193] ![1] inb_S8194_S1_8193, k0_pay49⟩, ⟨Rect.unit ![0] ![1] inb_S8194_S1_0, k0_pay48⟩,
      pieceF arg0 h0 arg1 h1 x0 x1 7168 7169 inb_S64x8192_S64x1024_0_7168 inb_S8194_S1024_7169,
      pieceF arg0 h0 arg1 h1 x0 x1 6144 6145 inb_S64x8192_S64x1024_0_6144 inb_S8194_S1024_6145,
      pieceF arg0 h0 arg1 h1 x0 x1 5120 5121 inb_S64x8192_S64x1024_0_5120 inb_S8194_S1024_5121,
      pieceF arg0 h0 arg1 h1 x0 x1 4096 4097 inb_S64x8192_S64x1024_0_4096 inb_S8194_S1024_4097,
      pieceF arg0 h0 arg1 h1 x0 x1 3072 3073 inb_S64x8192_S64x1024_0_3072 inb_S8194_S1024_3073,
      pieceF arg0 h0 arg1 h1 x0 x1 2048 2049 inb_S64x8192_S64x1024_0_2048 inb_S8194_S1024_2049,
      pieceF arg0 h0 arg1 h1 x0 x1 1024 1025 inb_S64x8192_S64x1024_0_1024 inb_S8194_S1024_1025,
      pieceF arg0 h0 arg1 h1 x0 x1 0 1 inb_S64x8192_S64x1024_0_0 inb_S8194_S1024_1] := rfl

theorem stores_i : (kernelRun0_A c arg0 h0 arg1 h1 arg2 h2 arg3 h3 x0 x1).2.1 =
    [⟨Rect.unit ![8193] ![1] inb_S8194_S1_8193, k0_pay51⟩, ⟨Rect.unit ![0] ![1] inb_S8194_S1_0, k0_pay50⟩,
      pieceI arg0 h0 arg1 h1 x0 x1 7168 7169 inb_S64x8192_S64x1024_0_7168 inb_S8194_S1024_7169,
      pieceI arg0 h0 arg1 h1 x0 x1 6144 6145 inb_S64x8192_S64x1024_0_6144 inb_S8194_S1024_6145,
      pieceI arg0 h0 arg1 h1 x0 x1 5120 5121 inb_S64x8192_S64x1024_0_5120 inb_S8194_S1024_5121,
      pieceI arg0 h0 arg1 h1 x0 x1 4096 4097 inb_S64x8192_S64x1024_0_4096 inb_S8194_S1024_4097,
      pieceI arg0 h0 arg1 h1 x0 x1 3072 3073 inb_S64x8192_S64x1024_0_3072 inb_S8194_S1024_3073,
      pieceI arg0 h0 arg1 h1 x0 x1 2048 2049 inb_S64x8192_S64x1024_0_2048 inb_S8194_S1024_2049,
      pieceI arg0 h0 arg1 h1 x0 x1 1024 1025 inb_S64x8192_S64x1024_0_1024 inb_S8194_S1024_1025,
      pieceI arg0 h0 arg1 h1 x0 x1 0 1 inb_S64x8192_S64x1024_0_0 inb_S8194_S1024_1] := rfl

end Cert.Proof.Ker

end
-- ==== Proof.KerValue.lean ====
/-
  What the kernel leaves in its two results, as a function of its operand: the first is one everywhere, the second is 64,
  then each row's first greatest perturbed logit's place, then 65 — where every row has a greatest one that is real.
-/
module

public import proofs.«01_k».proof.Proof.KerBlock
public import proofs.«01_k».proof.Proof.KerRun
public import proofs.«01_k».proof.Proof.Gen.KernelIdeal.Value
public import Idealize.ShloMosaic.Lib.WholeRead

@[expose] public section

set_option maxRecDepth 100000

noncomputable section

namespace Cert.Proof.Ker

open Cert.KernelIdeal Cert.KernelIdeal.Gen
open Idealize.ShloMosaic Idealize.ShloMosaic.TcCoe Idealize.ShloMosaic.ValueIdx Idealize.SL.Sem
open Cert.Proof.Row

/-- A column of the whole operands: its logits less its noise. -/
def col (x0 x1 : FVec Ideal S64x8192 .f32) (k : Fin 8192) (d : Fin 64) : EReal :=
  x0 (ix2 d k) - Ideal.log (-Ideal.log (x1 (ix2 d k)))

/-- The second result: 64, the places, 65. -/
def places (p : Fin 8192 → Fin 64) (y : S8194.Idx) : BitVec 32 :=
  if h0 : (y 0).val = 0 then 64#32
  else if h1 : (y 0).val = 8193 then 65#32
  else BitVec.ofNat 32 (p ⟨(y 0).val - 1, by have : (y 0).val < 8194 := (y 0).isLt; omega⟩).val

section Out

variable (c : Dev nD) (arg0 : Memref sig .tc .vmem S64x8192 .f32) (h0 : arg0.IsWhole) (arg1 : Memref sig .tc .vmem S64x8192 .f32)
  (h1 : arg1.IsWhole) (arg2 : Memref sig .tc .vmem S8194 .f32) (h2 : arg2.IsWhole) (arg3 : Memref sig .tc .vmem S8194 .i32)
  (h3 : arg3.IsWhole) (x0 x1 : FVec Ideal S64x8192 .f32)

theorem slice_apply (a : Memref sig .tc .vmem S64x8192 .f32) (h : a.IsWhole) (x : FVec Ideal S64x8192 .f32) (o : ℕ)
    (inb : ∀ d, (![0, o] : Fin 2 → ℕ) d + S64x1024.size d ≤ S64x8192.size d) (d : Fin 64) (i : Fin 1024) (k : Fin 8192)
    (hk : k.val = o + i.val) : slice (F := Ideal) a h x o inb (ix2 d i) = x (ix2 d k) := by
  refine (h.readAt_unread (Val := Elt Ideal) x (Rect.unit (s := S64x8192) ![0, o] S64x1024.size inb).toLoadRect (ix2 d i)).trans
    (congrArg x (funext fun b => Fin.ext ?_))
  match b with
  | ⟨0, _⟩ => show 0 + 1 * d.val = d.val; omega
  | ⟨1, _⟩ => show o + 1 * i.val = k.val; omega

theorem lane_slice (o : ℕ) (inb : ∀ d, (![0, o] : Fin 2 → ℕ) d + S64x1024.size d ≤ S64x8192.size d) (i : Fin 1024) (k : Fin 8192)
    (hk : k.val = o + i.val) : lane (slice (F := Ideal) arg0 h0 x0 o inb) (slice (F := Ideal) arg1 h1 x1 o inb) i = col x0 x1 k := by
  funext d
  unfold lane col
  rw [slice_apply arg0 h0 x0 o inb d i k hk, slice_apply arg1 h1 x1 o inb d i k hk]

variable (p : Fin 8192 → Fin 64) (M : Fin 8192 → ℝ) (hT : ∀ k, Top (col x0 x1 k) (p k) (M k))

theorem lt_of_inb {o : ℕ} (inb : ∀ d, (![0, o] : Fin 2 → ℕ) d + S64x1024.size d ≤ S64x8192.size d) (i : Fin 1024) :
    o + i.val < 8192 := by
  have h : o + 1024 ≤ 8192 := inb 1
  omega

include hT in
theorem block_f (o : ℕ) (inb : ∀ d, (![0, o] : Fin 2 → ℕ) d + S64x1024.size d ≤ S64x8192.size d) (x : S1024.Idx) :
    k0_pay5 (F := Ideal) (slice arg0 h0 x0 o inb) (slice arg1 h1 x1 o inb) x = (1 : EReal) := by
  obtain ⟨i, rfl⟩ : ∃ i, x = ix1 i := ⟨x 0, eq_ix1 x⟩
  have hl := lane_slice arg0 h0 arg1 h1 x0 x1 o inb i ⟨o + i.val, lt_of_inb inb i⟩ rfl
  exact pay5_apply (hl ▸ hT ⟨o + i.val, lt_of_inb inb i⟩)

include hT in
theorem block_i (o q : ℕ) (inb : ∀ d, (![0, o] : Fin 2 → ℕ) d + S64x1024.size d ≤ S64x8192.size d) (hq : q = o + 1)
    (inb' : ∀ d, (![q] : Fin 1 → ℕ) d + S1024.size d ≤ S8194.size d) (x : S1024.Idx) :
    k0_pay6 (F := Ideal) (slice arg0 h0 x0 o inb) (slice arg1 h1 x1 o inb) x
      = places p ((Rect.unit (s := S8194) ![q] S1024.size inb').emb x) := by
  obtain ⟨i, rfl⟩ : ∃ i, x = ix1 i := ⟨x 0, eq_ix1 x⟩
  have hl := lane_slice arg0 h0 arg1 h1 x0 x1 o inb i ⟨o + i.val, lt_of_inb inb i⟩ rfl
  have hlt := lt_of_inb inb i
  have hv : (((Rect.unit (s := S8194) ![q] S1024.size inb').emb (ix1 i)) 0).val = o + i.val + 1 := by
    show q + 1 * i.val = _
    omega
  rw [pay6_apply (hl ▸ hT ⟨o + i.val, lt_of_inb inb i⟩), places, dif_neg (by omega), dif_neg (by omega)]
  congr 3
  exact Fin.ext (by simp only [hv]; omega)

include hT in
/-- The first result's window after the body. -/
theorem out_f (y : S8194.Idx) : out0_A_2 (F := Ideal) c arg0 h0 arg1 h1 arg2 h2 arg3 h3 x0 x1 y = (1 : EReal) := by
  unfold out0_A_2
  refine View.read_writes_apply_of_pieces (Val := Elt Ideal) VO0_2 VO0_2.junk (fun _ : S8194.Idx => (1 : EReal)) _ ?_ y
    (cover0_A_2 (F := Ideal) c arg0 h0 arg1 h1 arg2 h2 arg3 h3 x0 x1 y)
  rw [stores_f]
  have hB := block_f arg0 h0 arg1 h1 x0 x1 p M hT
  intro q hq
  simp only [List.mem_cons, List.not_mem_nil, or_false] at hq
  rcases hq with rfl | rfl | rfl | rfl | rfl | rfl | rfl | rfl | rfl | rfl
  · exact fun _ => Ideal.ofBits_one_f32
  · exact fun _ => Ideal.ofBits_one_f32
  · exact hB 7168 inb_S64x8192_S64x1024_0_7168
  · exact hB 6144 inb_S64x8192_S64x1024_0_6144
  · exact hB 5120 inb_S64x8192_S64x1024_0_5120
  · exact hB 4096 inb_S64x8192_S64x1024_0_4096
  · exact hB 3072 inb_S64x8192_S64x1024_0_3072
  · exact hB 2048 inb_S64x8192_S64x1024_0_2048
  · exact hB 1024 inb_S64x8192_S64x1024_0_1024
  · exact hB 0 inb_S64x8192_S64x1024_0_0

include hT in
/-- The second result's window after the body. -/
theorem out_i (y : S8194.Idx) : out0_A_3 (F := Ideal) c arg0 h0 arg1 h1 arg2 h2 arg3 h3 x0 x1 y = places p y := by
  unfold out0_A_3
  refine View.read_writes_apply_of_pieces (Val := Elt Ideal) VO0_3 VO0_3.junk (places p) _ ?_ y
    (cover0_A_3 (F := Ideal) c arg0 h0 arg1 h1 arg2 h2 arg3 h3 x0 x1 y)
  rw [stores_i]
  have hB := block_i arg0 h0 arg1 h1 x0 x1 p M hT
  have h64 : ∀ y : S8194.Idx, (y 0).val = 0 → 64#32 = places p y := fun y h => by rw [places, dif_pos h]
  have h65 : ∀ y : S8194.Idx, (y 0).val = 8193 → 65#32 = places p y := fun y h => by rw [places, dif_neg (by omega), dif_pos h]
  have h1 : ∀ x : S1.Idx, (x 0).val = 0 := fun x => by have : (x 0).val < 1 := (x 0).isLt; omega
  intro q hq
  simp only [List.mem_cons, List.not_mem_nil, or_false] at hq
  rcases hq with rfl | rfl | rfl | rfl | rfl | rfl | rfl | rfl | rfl | rfl
  · exact fun x => h65 _ (by show 8193 + 1 * (x 0).val = 8193; have := h1 x; omega)
  · exact fun x => h64 _ (by show 0 + 1 * (x 0).val = 0; have := h1 x; omega)
  · exact hB 7168 7169 inb_S64x8192_S64x1024_0_7168 rfl inb_S8194_S1024_7169
  · exact hB 6144 6145 inb_S64x8192_S64x1024_0_6144 rfl inb_S8194_S1024_6145
  · exact hB 5120 5121 inb_S64x8192_S64x1024_0_5120 rfl inb_S8194_S1024_5121
  · exact hB 4096 4097 inb_S64x8192_S64x1024_0_4096 rfl inb_S8194_S1024_4097
  · exact hB 3072 3073 inb_S64x8192_S64x1024_0_3072 rfl inb_S8194_S1024_3073
  · exact hB 2048 2049 inb_S64x8192_S64x1024_0_2048 rfl inb_S8194_S1024_2049
  · exact hB 1024 1025 inb_S64x8192_S64x1024_0_1024 rfl inb_S8194_S1024_1025
  · exact hB 0 1 inb_S64x8192_S64x1024_0_0 rfl inb_S8194_S1024_1

end Out

/-! ## The arrays after the run -/

/-- The one point of the grid. -/
abbrev t0 : Fin cfg0.N := ⟨0, by decide⟩

variable (m : (ℓ : Loc nD τ sig) → Buf (Elt Ideal) ℓ)

theorem place0 (y : S64x8192.Idx) : ((cfg0.win 0).blk t0).view.emb y = y := by
  funext a; apply Fin.ext
  match a with
  | ⟨0, _⟩ => show 0 * 64 + 1 * (y 0).val = (y 0).val; omega
  | ⟨1, _⟩ => show 0 * 8192 + 1 * (y 1).val = (y 1).val; omega

theorem place1 (y : S64x8192.Idx) : ((cfg0.win 1).blk t0).view.emb y = y := by
  funext a; apply Fin.ext
  match a with
  | ⟨0, _⟩ => show 0 * 64 + 1 * (y 0).val = (y 0).val; omega
  | ⟨1, _⟩ => show 0 * 8192 + 1 * (y 1).val = (y 1).val; omega

theorem place2 (y : S8194.Idx) : ((cfg0.win 2).blk t0).view.emb y = y := by
  funext a; apply Fin.ext
  match a with
  | ⟨0, _⟩ => show 0 * 8194 + 1 * (y 0).val = (y 0).val; omega

theorem place3 (y : S8194.Idx) : ((cfg0.win 3).blk t0).view.emb y = y := by
  funext a; apply Fin.ext
  match a with
  | ⟨0, _⟩ => show 0 * 8194 + 1 * (y 0).val = (y 0).val; omega

theorem final2 (c : Dev nD) (y : S8194.Idx) : (dats m 0 c).arrAt 2 cfg0.N y
    = out0_A_2 c (ms0_0 t0) (hs0_0 t0) (ms0_1 t0) (hs0_1 t0) (ms0_2 t0) (hs0_2 t0) (ms0_3 t0) (hs0_3 t0) (iblk m c 0 t0) (iblk m c 1 t0) y :=
  (congrArg ((dats m 0 c).arrAt 2 cfg0.N) (place2 y)).symm.trans
    (congrFun ((Cert.KernelIdeal.Value.blocks2 m c t0 rfl).trans (Cert.KernelIdeal.Value.flushed2_A m c t0)) y)

theorem final3 (c : Dev nD) (y : S8194.Idx) : (dats m 0 c).arrAt 3 cfg0.N y
    = out0_A_3 c (ms0_0 t0) (hs0_0 t0) (ms0_1 t0) (hs0_1 t0) (ms0_2 t0) (hs0_2 t0) (ms0_3 t0) (hs0_3 t0) (iblk m c 0 t0) (iblk m c 1 t0) y :=
  (congrArg ((dats m 0 c).arrAt 3 cfg0.N) (place3 y)).symm.trans
    (congrFun ((Cert.KernelIdeal.Value.blocks3 m c t0 rfl).trans (Cert.KernelIdeal.Value.flushed3_A m c t0)) y)

end Cert.Proof.Ker

end
-- ==== Proof.Lines.lean ====
/-
  A straight line of host operations whose buffers are numbered in the order they are written: every buffer ends at its
  operation's value of what its operands end at, whatever the launch contents were.
-/
module

public import Idealize.ShloMosaic.Lib.StableHlo.Run

@[expose] public section

namespace Cert.Proof.Lines

open Idealize.ShloMosaic Idealize.ShloMosaic.TcCoe Idealize.ShloMosaic.StableHlo

variable {τ : Topo} {sig : RefSig} {Val : EltTy → Type}

/-- From `n` on, each operation writes at its own number and reads below it. -/
def Numbered : ℕ → List (HloOp τ sig Val) → Prop
  | _, [] => True
  | n, op :: ops => ((∀ b ∈ op.writes, b.idx.val = n) ∧ ∀ b ∈ op.bufs, b.idx.val ≤ n) ∧ Numbered (n + 1) ops

theorem Numbered.append {n : ℕ} {ops ops' : List (HloOp τ sig Val)} (h : Numbered n ops) (h' : Numbered (n + ops.length) ops') :
    Numbered n (ops ++ ops') := by
  induction ops generalizing n with
  | nil => exact h'
  | cons op ops ih =>
    refine ⟨h.1, ih h.2 ?_⟩
    rw [List.length_cons, Nat.add_comm ops.length 1, ← Nat.add_assoc] at h'
    exact h'

section Number

variable {x y p q : Ref sig .tc} {n : ℕ} {ops : List (HloOp τ sig Val)}

theorem numbered_nil : Numbered n ([] : List (HloOp τ sig Val)) ↔ True := Iff.rfl

theorem numbered_nullary {v : y.ty.Contents Val} {hy} : Numbered n (nullary (τ := τ) y v hy :: ops) ↔
    (Proc.devRef (τ := τ) .tc y).idx.val = n ∧ Numbered (n + 1) ops := by
  simp [Numbered, nullary]
  omega

theorem numbered_unary {f : x.ty.Contents Val → y.ty.Contents Val} {hx hy} :
    Numbered n (unary (τ := τ) x y f hx hy :: ops) ↔
    ((Proc.devRef (τ := τ) .tc y).idx.val = n ∧ (Proc.devRef (τ := τ) .tc x).idx.val ≤ n) ∧ Numbered (n + 1) ops := by
  simp [Numbered, unary]
  omega

theorem numbered_reshape {he hn hx hy} : Numbered n (reshape (τ := τ) (Val := Val) x y he hn hx hy :: ops) ↔
    ((Proc.devRef (τ := τ) .tc y).idx.val = n ∧ (Proc.devRef (τ := τ) .tc x).idx.val ≤ n) ∧ Numbered (n + 1) ops := by
  simp [Numbered, reshape]
  omega

theorem numbered_binary {f : p.ty.Contents Val → q.ty.Contents Val → y.ty.Contents Val} {hp hq hy} :
    Numbered n (binary (τ := τ) p q y f hp hq hy :: ops) ↔
    ((Proc.devRef (τ := τ) .tc y).idx.val = n ∧ (Proc.devRef (τ := τ) .tc p).idx.val ≤ n ∧ (Proc.devRef (τ := τ) .tc q).idx.val ≤ n)
      ∧ Numbered (n + 1) ops := by
  simp [Numbered, binary]
  omega

end Number

/-- The operation's buffers hold its values of what its operands hold. -/
def Held (U : Valuation τ sig Val) (op : HloOp τ sig Val) : Prop :=
  ∃ F : Valuation τ sig Val, (∀ b ∈ op.bufs, b ∉ op.writes → F b = U b) ∧ ∀ b ∈ op.writes, U b = op.result F b

theorem after_below {n : ℕ} {ops : List (HloOp τ sig Val)} (h : Numbered n ops) (V : Valuation τ sig Val) (b : DevRef τ sig)
    (hb : b.idx.val < n) : after ops V b = V b := by
  induction ops generalizing n V with
  | nil => rfl
  | cons op ops ih =>
    refine (ih h.2 (op.result V) (by omega)).trans (op.result_of_not_mem V fun hm => ?_)
    have := h.1.1 b hm
    omega

theorem held {n : ℕ} {ops : List (HloOp τ sig Val)} (h : Numbered n ops) (V : Valuation τ sig Val) :
    ops.Forall (Held (after ops V)) := by
  induction ops generalizing n V with
  | nil => trivial
  | cons op ops ih =>
    rw [List.forall_cons]
    refine ⟨⟨V, fun b hb hn => ?_, fun b hb => ?_⟩, ih h.2 (op.result V)⟩
    · exact ((after_below h.2 (op.result V) b (Nat.lt_succ_of_le (h.1.2 b hb))).trans (op.result_of_not_mem V hn)).symm
    · exact after_below h.2 (op.result V) b (Nat.lt_succ_of_le (h.1.2 b (op.writes_sub hb)))

variable {U : Valuation τ sig Val} {x y p q : Ref sig .tc}

theorem held_nullary (v : y.ty.Contents Val) (hy) : Held U (nullary y v hy) ↔ U (Proc.devRef .tc y) = v := by
  constructor
  · rintro ⟨F, -, h⟩
    exact (h _ (Finset.mem_singleton_self _)).trans (nullary_result' v hy F)
  · intro h
    refine ⟨U, fun _ _ _ => rfl, fun b hb => ?_⟩
    cases Finset.mem_singleton.mp hb
    exact h.trans (nullary_result' v hy U).symm

theorem held_unary (f : x.ty.Contents Val → y.ty.Contents Val) (hx hy) (h : (Proc.devRef (τ := τ) .tc x).idx.val ≠ (Proc.devRef (τ := τ) .tc y).idx.val) :
    Held U (unary x y f hx hy) ↔ U (Proc.devRef .tc y) = f (U (Proc.devRef .tc x)) := by
  constructor
  · rintro ⟨F, hF, hU⟩
    refine (hU _ (Finset.mem_singleton_self _)).trans ((unary_result' f hx hy F).trans (congrArg f ?_))
    exact hF _ (by simp [unary]) (fun hm => h (congrArg (fun b : DevRef τ sig => b.idx.val) (Finset.mem_singleton.mp hm)))
  · intro h
    refine ⟨U, fun _ _ _ => rfl, fun b hb => ?_⟩
    cases Finset.mem_singleton.mp hb
    exact h.trans (unary_result' f hx hy U).symm

theorem held_binary (f : p.ty.Contents Val → q.ty.Contents Val → y.ty.Contents Val) (hp hq hy)
    (h : (Proc.devRef (τ := τ) .tc p).idx.val ≠ (Proc.devRef (τ := τ) .tc y).idx.val)
    (h' : (Proc.devRef (τ := τ) .tc q).idx.val ≠ (Proc.devRef (τ := τ) .tc y).idx.val) :
    Held U (binary p q y f hp hq hy) ↔ U (Proc.devRef .tc y) = f (U (Proc.devRef .tc p)) (U (Proc.devRef .tc q)) := by
  constructor
  · rintro ⟨F, hF, hU⟩
    refine (hU _ (Finset.mem_singleton_self _)).trans ((binary_result' f hp hq hy F).trans (congrArg₂ f ?_ ?_))
    · exact hF _ (by simp [binary]) (fun hm => h (congrArg (fun b : DevRef τ sig => b.idx.val) (Finset.mem_singleton.mp hm)))
    · exact hF _ (by simp [binary]) (fun hm => h' (congrArg (fun b : DevRef τ sig => b.idx.val) (Finset.mem_singleton.mp hm)))
  · intro h
    refine ⟨U, fun _ _ _ => rfl, fun b hb => ?_⟩
    cases Finset.mem_singleton.mp hb
    exact h.trans (binary_result' f hp hq hy U).symm

theorem held_reshape (he hn hx hy) (h : (Proc.devRef (τ := τ) .tc x).idx.val ≠ (Proc.devRef (τ := τ) .tc y).idx.val) :
    Held U (reshape (Val := Val) x y he hn hx hy) ↔
      U (Proc.devRef .tc y) = fun i => he ▸ shapeCast y.ty.shape (U (Proc.devRef .tc x)) hn i := by
  constructor
  · rintro ⟨F, hF, hU⟩
    refine (hU _ (Finset.mem_singleton_self _)).trans ((reshape_result' he hn hx hy F).trans ?_)
    rw [hF _ (by simp [reshape]) (fun hm => h (congrArg (fun b : DevRef τ sig => b.idx.val) (Finset.mem_singleton.mp hm)))]
  · intro h
    refine ⟨U, fun _ _ _ => rfl, fun b hb => ?_⟩
    cases Finset.mem_singleton.mp hb
    exact h.trans (reshape_result' he hn hx hy U).symm

end Cert.Proof.Lines
-- ==== Proof.Words.lean ====
/-
  The words behind the uniform numbers, as plain arithmetic on 32-bit words: the twenty rounds of the counter-based
  generator at the key (0, 42), five times four with a key addition after each four. The lemmas read a round, or a key
  addition, off the values a program computes for it, element by element, whatever the shape.
-/
module

public import Idealize.ShloMosaic.PureOps.Vector
public import Idealize.ShloMosaic.PureOps.ShapeOps

@[expose] public section

namespace Cert.Proof.Words

open Idealize.ShloMosaic

/-- A round: the sum, and the second word rotated (`r'` is 32 less `r`) and mixed with it. -/
def mix (r r' : BitVec 32) (p : BitVec 32 × BitVec 32) : BitVec 32 × BitVec 32 :=
  (p.1 + p.2, (IntOp.shli .host p.2 r ||| IntOp.shrui .host p.2 r') ^^^ (p.1 + p.2))

/-- A key addition. -/
def bump (k k' n : BitVec 32) (p : BitVec 32 × BitVec 32) : BitVec 32 × BitVec 32 := (p.1 + k, p.2 + k' + n)

/-- The first four rounds, and each second four after them; -/
def four (p : BitVec 32 × BitVec 32) : BitVec 32 × BitVec 32 := mix 6#32 26#32 (mix 26#32 6#32 (mix 15#32 17#32 (mix 13#32 19#32 p)))
/-- the four between. -/
def four' (p : BitVec 32 × BitVec 32) : BitVec 32 × BitVec 32 := mix 24#32 8#32 (mix 16#32 16#32 (mix 29#32 3#32 (mix 17#32 15#32 p)))

/-- The two words at a counter. -/
def pair (n : BitVec 32) : BitVec 32 × BitVec 32 :=
  bump 466689008#32 0#32 5#32 (four (bump 42#32 466689008#32 4#32 (four' (bump 0#32 42#32 3#32 (four
    (bump 466689008#32 0#32 2#32 (four' (bump 42#32 466689008#32 1#32 (four (0#32, n + 42#32))))))))))

/-- The word at a counter. -/
def word (n : BitVec 32) : BitVec 32 := (pair n).1 ^^^ (pair n).2

variable {s s₀ : Shape} {dims : Fin s₀.rank → Fin s.rank} {hb : s₀.BroadcastsInDim s dims} {g : s.Idx → BitVec 32 × BitVec 32}

/-- Two arrays of words hold `g`'s pairs. -/
def Are (x0 x1 : IVec s 32) (g : s.Idx → BitVec 32 × BitVec 32) : Prop := ∀ i, (x0 i, x1 i) = g i

variable {x0 x1 a b l b' h o y : IVec s 32} {c c' k k' : IVec s₀ 32} {r r' κ κ' n : BitVec 32} {R : Prop}

/-! Each reads its values off the front of a conjunction of them and leaves the rest `R`. -/

theorem Are.turn (hx : Are x0 x1 g ∧ a = addi x0 x1 ∧ c = constantI s₀ 32 r ∧ b = broadcastInDim s dims hb c ∧ l = Host.shli x1 b
    ∧ c' = constantI s₀ 32 r' ∧ b' = broadcastInDim s dims hb c' ∧ h = Host.shrui x1 b' ∧ o = ori l h ∧ y = xori o a ∧ R) :
    Are a y (fun i => mix r r' (g i)) ∧ R := by
  obtain ⟨hx, rfl, rfl, rfl, rfl, rfl, rfl, rfl, rfl, rfl, hr⟩ := hx
  exact ⟨fun i => congrArg (mix r r') (hx i), hr⟩

/-- A round whose last operands are the other way round. -/
theorem Are.turn' (hx : Are x0 x1 g ∧ a = addi x0 x1 ∧ c = constantI s₀ 32 r ∧ b = broadcastInDim s dims hb c ∧ l = Host.shli x1 b
    ∧ c' = constantI s₀ 32 r' ∧ b' = broadcastInDim s dims hb c' ∧ h = Host.shrui x1 b' ∧ o = ori l h ∧ y = xori a o ∧ R) :
    Are a y (fun i => mix r r' (g i)) ∧ R := by
  obtain ⟨hx, rfl, rfl, rfl, rfl, rfl, rfl, rfl, rfl, rfl, hr⟩ := hx
  exact ⟨fun i => Eq.trans (congrArg (Prod.mk _) (BitVec.xor_comm _ _)) (congrArg (mix r r') (hx i)), hr⟩

theorem Are.key (hx : Are x0 x1 g ∧ k = constantI s₀ 32 κ ∧ b = broadcastInDim s dims hb k ∧ a = addi x0 b
    ∧ k' = constantI s₀ 32 κ' ∧ b' = broadcastInDim s dims hb k' ∧ l = addi x1 b' ∧ c = constantI s₀ 32 n
    ∧ h = broadcastInDim s dims hb c ∧ y = addi l h ∧ R) : Are a y (fun i => bump κ κ' n (g i)) ∧ R := by
  obtain ⟨hx, rfl, rfl, rfl, rfl, rfl, rfl, rfl, rfl, rfl, hr⟩ := hx
  exact ⟨fun i => congrArg (bump κ κ' n) (hx i), hr⟩

/-- A key addition whose key words are held already. -/
theorem Are.key' (ek : k = constantI s₀ 32 κ) (ek' : k' = constantI s₀ 32 κ') (hx : Are x0 x1 g ∧ b = broadcastInDim s dims hb k
    ∧ a = addi x0 b ∧ b' = broadcastInDim s dims hb k' ∧ l = addi x1 b' ∧ c = constantI s₀ 32 n
    ∧ h = broadcastInDim s dims hb c ∧ y = addi l h ∧ R) : Are a y (fun i => bump κ κ' n (g i)) ∧ R := by
  obtain ⟨hx, h1, h2, h3, h4, h5, h6, h7, hr⟩ := hx
  exact Are.key ⟨hx, ek, h1, h2, ek', h3, h4, h5, h6, h7, hr⟩

end Cert.Proof.Words
-- ==== Proof.KerDraw.lean ====
/-
  The kernel's second operand: its host operations draw the uniform numbers, each from the generator's word at its own
  number, and turn the array over; the first operand is the second argument turned over.
-/
module

public import proofs.«01_k».proof.Proof.Gen.KernelIdeal.Frame.Runs
public import proofs.«01_k».proof.Proof.Lines
public import proofs.«01_k».proof.Proof.Words
public import Idealize.ShloMosaic.Lib.ValueIdx

@[expose] public section

set_option maxRecDepth 100000

noncomputable section

namespace Cert.Proof.Ker

open Cert.KernelIdeal Cert.KernelIdeal.Gen
open Idealize.ShloMosaic Idealize.ShloMosaic.TcCoe
open Cert.Proof.Lines Cert.Proof.Words

/-- The uniform numbers, by their number in the draw. -/
def drawn : FVec Ideal S524288 .f32 := fun i =>
  Ideal.ofBits .f32 (IntOp.shrui .host (word (BitVec.ofNat 32 (i 0).val)) 9#32 ||| 0x3F800000#32)
    - Ideal.ofBits .f32 0x3F800000#32 + Ideal.ofBits .f32 0x1E3CE508#32

set_option maxHeartbeats 4000000 in
set_option synthInstance.maxSize 100000 in
set_option synthInstance.maxHeartbeats 4000000 in
theorem numbered : Numbered 3 (hostOps0 : List (HloOp τ sig (Elt Ideal))) := by
  simp only [hostOps0, numbered_nullary, numbered_unary, numbered_binary, numbered_reshape, numbered_nil, Nat.reduceAdd]
  decide +kernel

/-- The generator's start. -/
theorem start {v0 b1 b2 v3 b4 v5 : IVec S524288 32} {c1 c2 c3 : IVec S_ 32} {R : Prop} (h : v0 = iotaInDim S524288 32 0
    ∧ c1 = constantI S_ 32 0#32 ∧ b1 = broadcastInDim S524288 ![] bcast_S_S524288 c1
    ∧ c2 = constantI S_ 32 0#32 ∧ b2 = broadcastInDim S524288 ![] bcast_S_S524288 c2 ∧ v3 = addi b1 b2
    ∧ c3 = constantI S_ 32 42#32 ∧ b4 = broadcastInDim S524288 ![] bcast_S_S524288 c3 ∧ v5 = addi v0 b4 ∧ R) :
    Are v3 v5 (fun i => (0#32, BitVec.ofNat 32 (i 0).val + 42#32)) ∧ R := by
  obtain ⟨rfl, rfl, rfl, rfl, rfl, rfl, rfl, rfl, rfl, hr⟩ := h
  exact ⟨fun _ => rfl, hr⟩

/-- The numbers from the words, and the operands from the numbers. -/
theorem finish {x0 x1 w b1 v178 b2 v180 : IVec S524288 32} {c1 c2 : IVec S_ 32} {k1 k2 : FVec Ideal S_ .f32}
    {v181 f1 v183 f2 v185 : FVec Ideal S524288 .f32} {v186 : FVec Ideal S8192x64 .f32} {v187 v188 : FVec Ideal S64x8192 .f32}
    {W : FVec Ideal S8192x64 .f32} (h : Are x0 x1 (fun i => pair (BitVec.ofNat 32 (i 0).val)) ∧ w = xori x0 x1
    ∧ c1 = constantI S_ 32 9#32 ∧ b1 = broadcastInDim S524288 ![] bcast_S_S524288 c1 ∧ v178 = Host.shrui w b1
    ∧ c2 = constantI S_ 32 1065353216#32 ∧ b2 = broadcastInDim S524288 ![] bcast_S_S524288 c2 ∧ v180 = ori v178 b2
    ∧ v181 = bitcastToFloat .f32 v180 ∧ k1 = constant S_ .f32 0x3F800000#32
    ∧ f1 = broadcastInDim S524288 ![] bcast_S_S524288 k1 ∧ v183 = subf v181 f1 ∧ k2 = constant S_ .f32 0x1E3CE508#32
    ∧ f2 = broadcastInDim S524288 ![] bcast_S_S524288 k2 ∧ v185 = addf v183 f2
    ∧ (v186 = fun i => shapeCast S8192x64 v185 shapeCasts_S524288_S8192x64 i)
    ∧ v187 = transpose S64x8192 [1, 0] v186 transposes_S8192x64_S64x8192_1_0
    ∧ v188 = transpose S64x8192 [1, 0] W transposes_S8192x64_S64x8192_1_0 ∧ True) :
    v187 = transpose S64x8192 [1, 0] (shapeCast S8192x64 drawn shapeCasts_S524288_S8192x64) transposes_S8192x64_S64x8192_1_0
    ∧ v188 = transpose S64x8192 [1, 0] W transposes_S8192x64_S64x8192_1_0 := by
  obtain ⟨hx, rfl, rfl, rfl, rfl, rfl, rfl, rfl, rfl, rfl, rfl, rfl, rfl, rfl, rfl, rfl, rfl, e, -⟩ := h
  refine ⟨congrArg (fun v => transpose S64x8192 [1, 0] (shapeCast S8192x64 v shapeCasts_S524288_S8192x64)
    transposes_S8192x64_S64x8192_1_0) (funext fun i => ?_), e⟩
  have e0 : x0 i = (pair (BitVec.ofNat 32 (i 0).val)).1 := congrArg Prod.fst (hx i)
  have e1 : x1 i = (pair (BitVec.ofNat 32 (i 0).val)).2 := congrArg Prod.snd (hx i)
  show Ideal.ofBits .f32 (IntOp.shrui .host (x0 i ^^^ x1 i) 9#32 ||| 0x3F800000#32)
    - Ideal.ofBits .f32 0x3F800000#32 + Ideal.ofBits .f32 0x1E3CE508#32 = _
  rw [e0, e1]
  rfl

set_option maxHeartbeats 4000000 in
theorem operands (V₀ : Valuation τ sig (Elt Ideal)) :
    StableHlo.after hostOps0 V₀ (main_v187 : DevRef τ sig)
        = transpose S64x8192 [1, 0] (shapeCast S8192x64 drawn shapeCasts_S524288_S8192x64) transposes_S8192x64_S64x8192_1_0
    ∧ StableHlo.after hostOps0 V₀ (main_v188 : DevRef τ sig)
        = transpose S64x8192 [1, 0] (StableHlo.after hostOps0 V₀ (main_arg1 : DevRef τ sig)) transposes_S8192x64_S64x8192_1_0 := by
  have h := held numbered V₀
  generalize StableHlo.after hostOps0 V₀ = U at h ⊢
  simp (disch := decide) only [hostOps0, List.forall_cons, held_nullary, held_unary, held_binary, held_reshape] at h
  replace h := start h
  iterate 4 replace h := Are.turn h
  replace h := Are.key h
  iterate 4 replace h := Are.turn h
  replace h := Are.key h
  iterate 4 replace h := Are.turn h
  replace h := Are.key h
  iterate 4 replace h := Are.turn h
  replace h := Are.key h
  iterate 4 replace h := Are.turn h
  replace h := Are.key h
  exact finish h

end Cert.Proof.Ker

end
-- ==== Proof.Noise.lean ====
/-
  The noise of one entry at the ideal numbers: the uniform number drawn at a counter lies strictly between zero and one, so
  the logarithm of its negated logarithm is a real number.
-/
module

public import proofs.«01_k».proof.Proof.Words
public import Idealize.ShloMosaic.PureOps.Ideal.Laws
public import Idealize.ShloMosaic.Lib.ValueIdx
public import Mathlib.Analysis.SpecialFunctions.Log.Basic

@[expose] public section

noncomputable section

namespace Cert.Proof.Noise

open Idealize.ShloMosaic
open Cert.Proof.Words

/-- A word that is neither negative, nor small, nor beyond the finite ones stands for this real number. -/
theorem normal {w : BitVec 32} (h0 : 2 ^ 23 ≤ w.toNat) (h1 : w.toNat < 255 * 2 ^ 23) : Ideal.ofBits .f32 w
    = (((2 ^ 23 + w.toNat % 2 ^ 23 : ℕ) : ℝ) * (2 : ℝ) ^ (((w.toNat / 2 ^ 23 : ℕ) : ℤ) - 150) : ℝ) := by
  have hneg : (w.extractLsb' (8 + 23) 1 == 1#1) = false := by
    rw [beq_eq_false_iff_ne]
    intro h
    have := congrArg BitVec.toNat h
    rw [BitVec.extractLsb'_toNat, Nat.shiftRight_eq_div_pow] at this
    have h2 : w.toNat / 2 ^ (8 + 23) = 0 := Nat.div_eq_of_lt (by omega)
    rw [h2] at this
    exact absurd this (by decide)
  have hex : (w.extractLsb' 23 8).toNat = w.toNat / 2 ^ 23 := by
    rw [BitVec.extractLsb'_toNat, Nat.shiftRight_eq_div_pow]; exact Nat.mod_eq_of_lt (by omega)
  have hfr : (w.extractLsb' 0 23).toNat = w.toNat % 2 ^ 23 := by
    rw [BitVec.extractLsb'_toNat]; simp
  show Ideal.ieee 8 23 w = _
  unfold Ideal.ieee
  rw [hneg, hex, hfr]
  simp only [Bool.false_eq_true, if_false]
  rw [if_neg (by omega), if_neg (by omega), one_mul]
  congr 3
  norm_num
  ring

/-- The word of a number from one up to two, from a word's leading bits: their part after the point. -/
theorem mantissa (x : BitVec 32) : ∃ q : ℕ, q < 2 ^ 23
    ∧ Ideal.ofBits .f32 (IntOp.shrui .host x 9#32 ||| 0x3F800000#32) = ((1 + (q : ℝ) / 2 ^ 23 : ℝ) : EReal) := by
  have hx : IntOp.shrui .host x 9#32 = x >>> 9 := rfl
  have hlt : x.toNat / 2 ^ 9 < 2 ^ 23 := by have := x.isLt; omega
  have hn : (x >>> 9 ||| 0x3F800000#32).toNat = 127 * 2 ^ 23 + x.toNat / 2 ^ 9 := by
    rw [BitVec.toNat_or, BitVec.toNat_ushiftRight, Nat.shiftRight_eq_div_pow, Nat.or_comm]
    have := (Nat.shiftLeft_add_eq_or_of_lt hlt 127).symm
    rw [Nat.shiftLeft_eq] at this
    exact this
  refine ⟨x.toNat / 2 ^ 9, hlt, ?_⟩
  rw [hx, normal (by omega) (by omega), hn]
  have e1 : (127 * 2 ^ 23 + x.toNat / 2 ^ 9) % 2 ^ 23 = x.toNat / 2 ^ 9 := by omega
  have e2 : (127 * 2 ^ 23 + x.toNat / 2 ^ 9) / 2 ^ 23 = 127 := by omega
  rw [e1, e2]
  norm_num
  norm_cast
  push_cast
  ring

theorem one_eq : Ideal.ofBits .f32 0x3F800000#32 = ((1 : ℝ) : EReal) := by
  rw [normal (by decide) (by decide)]
  norm_num

theorem zero_eq : Ideal.ofBits .f32 0x00000000#32 = ((0 : ℝ) : EReal) := by
  rw [Ideal.ofBits_zero_f32, EReal.coe_zero]

/-- The small number added. -/
theorem small : ∃ ε : ℝ, 0 < ε ∧ ε < 1 / 2 ^ 23 ∧ Ideal.ofBits .f32 0x1E3CE508#32 = (ε : EReal) := by
  refine ⟨_, ?_, ?_, normal (by decide) (by decide)⟩
  · positivity
  · norm_num

/-- The uniform number drawn at a counter. -/
def unif (n : BitVec 32) : EReal :=
  Ideal.ofBits .f32 (IntOp.shrui .host (word n) 9#32 ||| 0x3F800000#32) - Ideal.ofBits .f32 0x3F800000#32
    + Ideal.ofBits .f32 0x1E3CE508#32

/-- Scaled to the span from zero to one, and kept from falling below zero, it is the same. -/
theorem unif_scaled (n : BitVec 32) :
    max (Ideal.ofBits .f32 0x00000000#32)
        ((Ideal.ofBits .f32 (IntOp.shrui .host (word n) 9#32 ||| 0x3F800000#32) - Ideal.ofBits .f32 0x3F800000#32)
          * (Ideal.ofBits .f32 0x3F800000#32 - Ideal.ofBits .f32 0x00000000#32) + Ideal.ofBits .f32 0x00000000#32)
      + Ideal.ofBits .f32 0x1E3CE508#32 = unif n := by
  obtain ⟨q, -, hq⟩ := mantissa (word n)
  unfold unif
  rw [hq, one_eq, zero_eq, ← EReal.coe_sub, ← EReal.coe_sub, ← EReal.coe_mul, ← EReal.coe_add, sub_zero, mul_one, add_zero,
    max_eq_right (EReal.coe_le_coe_iff.mpr (by rw [add_sub_cancel_left]; positivity))]

/-- It lies strictly between zero and one. -/
theorem unif_unit (n : BitVec 32) : ∃ r : ℝ, 0 < r ∧ r < 1 ∧ unif n = (r : EReal) := by
  obtain ⟨q, hlt, hq⟩ := mantissa (word n)
  obtain ⟨ε, h0, h1, hε⟩ := small
  refine ⟨1 + (q : ℝ) / 2 ^ 23 - 1 + ε, ?_, ?_, ?_⟩
  · rw [add_sub_cancel_left]; positivity
  · have hl : (q : ℝ) + 1 ≤ 2 ^ 23 := by exact_mod_cast hlt
    have hd : ((q : ℝ) + 1) / 2 ^ 23 ≤ 1 := (div_le_one (by positivity)).mpr hl
    rw [add_div] at hd
    rw [add_sub_cancel_left]
    linarith
  · unfold unif
    rw [hq, one_eq, hε, ← EReal.coe_sub, ← EReal.coe_add]

/-- The noise at a counter, before its sign. -/
def gum (n : BitVec 32) : EReal := Ideal.log (-Ideal.log (unif n))

/-- It is a real number. -/
theorem gum_real (n : BitVec 32) : ∃ r : ℝ, gum n = (r : EReal) := by
  obtain ⟨r, hr0, hr1, hr⟩ := unif_unit n
  refine ⟨Real.log (-Real.log r), ?_⟩
  rw [gum, hr, Ideal.log_coe, if_neg (not_le.mpr hr0), ← EReal.coe_neg, Ideal.log_coe,
    if_neg (not_le.mpr (neg_pos.mpr (Real.log_neg hr0 hr1)))]

/-- A row of logits less a row of real numbers has a greatest value that is real, if the row of logits has. -/
theorem max_sub_real {v g : Fin 64 → EReal} {B : ℝ} (hv : (Finset.univ : Finset (Fin 64)).fold max ⊥ v = (B : EReal))
    (hg : ∀ d, ∃ r : ℝ, g d = (r : EReal)) :
    ∃ M : ℝ, (Finset.univ : Finset (Fin 64)).fold max ⊥ (fun d => v d - g d) = (M : EReal) := by
  have hle : ∀ d, v d ≤ (B : EReal) := fun d => by
    rw [← hv]; exact Finset.le_fold_max _ |>.mpr (.inr ⟨d, Finset.mem_univ d, le_rfl⟩)
  have hlt : (Finset.univ : Finset (Fin 64)).fold max ⊥ (fun d => v d - g d) < ⊤ := by
    refine Finset.fold_max_lt _ |>.mpr ⟨bot_lt_top, fun d _ => ?_⟩
    obtain ⟨r, hr⟩ := hg d
    rw [hr]
    refine lt_of_le_of_lt (EReal.sub_le_sub (hle d) le_rfl) ?_
    rw [← EReal.coe_sub]; exact EReal.coe_lt_top _
  have hgt : ⊥ < (Finset.univ : Finset (Fin 64)).fold max ⊥ (fun d => v d - g d) := by
    have h' : (B : EReal) ≤ (Finset.univ : Finset (Fin 64)).fold max ⊥ v := hv.ge
    rcases Finset.le_fold_max _ |>.mp h' with hb | ⟨d, -, hd⟩
    · exact absurd hb (by simp)
    · refine Finset.lt_fold_max _ |>.mpr (.inr ⟨d, Finset.mem_univ d, ?_⟩)
      obtain ⟨r, hr⟩ := hg d
      rw [hr]
      refine lt_of_lt_of_le ?_ (EReal.sub_le_sub hd le_rfl)
      rw [← EReal.coe_sub]; exact EReal.bot_lt_coe _
  exact ⟨_, (EReal.coe_toReal hlt.ne hgt.ne').symm⟩

end Cert.Proof.Noise

end
-- ==== Proof.KerEnd.lean ====
/-
  The kernel's run at the ideal numbers: its two results as functions of its second argument, whose rows, less the noise
  drawn, each have a greatest value that is real.
-/
module

public import proofs.«01_k».proof.Proof.KerValue
public import proofs.«01_k».proof.Proof.KerDraw
public import proofs.«01_k».proof.Proof.Noise
public import Idealize.ShloMosaic.Lib.ValueLayout

@[expose] public section

set_option maxRecDepth 100000

noncomputable section

namespace Cert.Proof.Ker

open Cert.KernelIdeal Cert.KernelIdeal.Gen
open Idealize.ShloMosaic Idealize.ShloMosaic.TcCoe Idealize.ShloMosaic.ValueIdx Idealize.SL.Sem
open Cert.Proof.Noise Cert.Proof.Lines

/-- A row's perturbed logits: its logits less the noise. -/
def row (W : FVec Ideal S8192x64 .f32) (k : Fin 8192) (d : Fin 64) : EReal := W (ix2 k d) - gum (BitVec.ofNat 32 (k.val * 64 + d.val))

variable (m : (ℓ : Loc nD τ sig) → Buf (Elt Ideal) ℓ) (ρ : Dev nD → PrngReg)

/-- The first operand is the second argument transposed. -/
theorem logits_eq (c : Dev nD) : V m c main_v188
    = transpose S64x8192 [1, 0] (m ((c : Thread nD τ).loc main_arg1)) transposes_S8192x64_S64x8192_1_0 :=
  (operands (fun b => m (c, b))).2.trans (congrArg (fun v => transpose S64x8192 [1, 0] v transposes_S8192x64_S64x8192_1_0)
    (after_below numbered (fun b => m (c, b)) (main_arg1 : DevRef τ sig) (by decide)))

/-- The second operand is the uniform numbers transposed. -/
theorem drawn_eq (c : Dev nD) : V m c main_v187
    = transpose S64x8192 [1, 0] (shapeCast S8192x64 drawn shapeCasts_S524288_S8192x64) transposes_S8192x64_S64x8192_1_0 :=
  (operands (fun b => m (c, b))).1

theorem drawn_at (d : Fin 64) (k : Fin 8192) :
    (shapeCast S8192x64 drawn shapeCasts_S524288_S8192x64 (ix2 k d) : EReal) = unif (BitVec.ofNat 32 (k.val * 64 + d.val)) := by
  have hj : k.val * 64 + d.val < 524288 := by omega
  have hr : (S524288.rowMajor (ix1 ⟨k.val * 64 + d.val, hj⟩)).val = (S8192x64.rowMajor (ix2 k d)).val :=
    (Shape.rowMajor_val_one _).trans (Shape.rowMajor_val_two (ix2 k d)).symm
  exact shapeCast_apply drawn shapeCasts_S524288_S8192x64 (ix2 k d) (ix1 ⟨k.val * 64 + d.val, hj⟩) hr

/-! Whatever the buffers hold, an operand's one block is its array. -/

theorem block0 (c : Dev nD) (U : (b : Ref sig .tc) → Buf (Elt Ideal) ((c : Thread nD τ).loc b)) (z : S64x8192.Idx) :
    ((cfg0.win 0).blk t0).view.read (Elt Ideal) (U (Pipeline.arrRef spec0 0)) z = U main_v188 z :=
  congrArg (U main_v188) (place0 z)

theorem block1 (c : Dev nD) (U : (b : Ref sig .tc) → Buf (Elt Ideal) ((c : Thread nD τ).loc b)) (z : S64x8192.Idx) :
    ((cfg0.win 1).blk t0).view.read (Elt Ideal) (U (Pipeline.arrRef spec0 1)) z = U main_v187 z :=
  congrArg (U main_v187) (place1 z)

theorem iblk0_apply (c : Dev nD) (z : S64x8192.Idx) : iblk m c 0 t0 z = V m c main_v188 z := block0 c (V m c) z

theorem iblk1_apply (c : Dev nD) (z : S64x8192.Idx) : iblk m c 1 t0 z = V m c main_v187 z := block1 c (V m c) z

theorem col_eq (c : Dev nD) (k : Fin 8192) :
    col (iblk m c 0 t0) (iblk m c 1 t0) k = row (m ((c : Thread nD τ).loc main_arg1)) k := by
  funext d
  unfold col row gum
  have h0 : iblk m c 0 t0 (ix2 d k) = m ((c : Thread nD τ).loc main_arg1) (ix2 k d) :=
    (iblk0_apply m c (ix2 d k)).trans ((congrFun (logits_eq m c) (ix2 d k)).trans (transpose_ix2_apply _ _ d k))
  have h1 : iblk m c 1 t0 (ix2 d k) = unif (BitVec.ofNat 32 (k.val * 64 + d.val)) :=
    (iblk1_apply m c (ix2 d k)).trans ((congrFun (drawn_eq m c) (ix2 d k)).trans ((transpose_ix2_apply _ _ d k).trans (drawn_at d k)))
  rw [h0, h1]

variable (p : Dev nD → Fin 8192 → Fin 64) (B : Dev nD → Fin 8192 → ℝ)
  (hT : ∀ (c : Dev nD) k, Row.Top (row (m ((c : Thread nD τ).loc main_arg1)) k) (p c k) (B c k))

include hT in
theorem run_main : θ_run defs (onTc (τ := τ) (main (F := Ideal))) ⟨m, fun _ => 0, ρ⟩ fun r => ∀ c : Dev nD,
      r.2.mem ((c : Thread nD τ).loc main_v189_0) = (fun _ => (1 : EReal))
      ∧ r.2.mem ((c : Thread nD τ).loc main_v189_1) = places (p c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Cert.KernelIdeal.Value.run_blocks m ρ)
  obtain ⟨r0, r1, a⟩ := h c
  have hT' : ∀ k, Row.Top (col (iblk m c 0 t0) (iblk m c 1 t0) k) (p c k) (B c k) := fun k => col_eq m c k ▸ hT c k
  exact ⟨r0.trans (funext fun y => (final2 m c y).trans (out_f c _ _ _ _ _ _ _ _ _ _ (p c) (B c) hT' y)),
    r1.trans (funext fun y => (final3 m c y).trans (out_i c _ _ _ _ _ _ _ _ _ _ (p c) (B c) hT' y)), a⟩

end Cert.Proof.Ker

end
-- ==== Proof.RefDraw.lean ====
/-
  The reference's draw: the operations before the perturbed logits, written out over their calls' buffers, and the uniform
  numbers they leave, each from the generator's word at its own number.
-/
module

public import proofs.«01_k».proof.Proof.Gen.ReferenceIdeal
public import proofs.«01_k».proof.Proof.Lines
public import proofs.«01_k».proof.Proof.Words
public import Idealize.ShloMosaic.Lib.ValueIdx
public import Idealize.ShloMosaic.Lib.Pipeline.Value

@[expose] public section

set_option maxRecDepth 100000

noncomputable section

namespace Cert.Proof.Ref

open Cert.ReferenceIdeal
open Cert.ReferenceIdeal.Facts₀
open Idealize.ShloMosaic Idealize.ShloMosaic.TcCoe Idealize.ShloMosaic.StableHlo Idealize.ShloMosaic.ValueIdx
open Cert.Proof.Lines Cert.Proof.Words

variable {F : FTy → Type} [FloatOps F]

/-- An entry's number in the draw. -/
def count (i : S1x8192x64.Idx) : BitVec 32 := BitVec.ofNat 32 ((i 1).val * 64 + (i 2).val)

/-- The uniform numbers: a word's leading bits as a number from one up to two, scaled to the span from zero to one and kept
    from falling below it, and a small number added. -/
def noise : FVec F S1x8192x64 .f32 := fun i =>
  FloatOps.addf
    (FloatOps.maximumf (FloatOps.ofBits .f32 0x00000000#32)
      (FloatOps.addf
        (FloatOps.mulf
          (FloatOps.subf (FloatOps.ofBits .f32 (IntOp.shrui .host (word (count i)) 9#32 ||| 0x3F800000#32))
            (FloatOps.ofBits .f32 0x3F800000#32))
          (FloatOps.subf (FloatOps.ofBits .f32 0x3F800000#32) (FloatOps.ofBits .f32 0x00000000#32)))
        (FloatOps.ofBits .f32 0x00000000#32)))
    (FloatOps.ofBits .f32 0x1E3CE508#32)

/-- The draw's operations, in order. -/
abbrev opsU : List (HloOp τ sig (Elt F)) :=
  [ nullary main_c (constantI S1 32 64#32),
    nullary main_c_0 (constantI S1 32 65#32),
    unary main_arg1 main_v0 (broadcastInDim S1x8192x64 ![1, 2] bcast_S8192x64_S1x8192x64_1_2),
    nullary main_c_1 (constantI S_ 32 42#32),
    nullary main_c_2 (constantI S_ 32 32#32),
    binary main_c_1 main_c_2 main_v1 Host.shrui,
    unary main_v1 main_v2 id,
    unary main_v2 main_v3 (broadcastInDim S1 ![] bcast_S_S1),
    nullary main_c_3 (constantI S_ 32 4294967295#32),
    binary main_c_1 main_c_3 main_v4 andi,
    unary main_v4 main_v5 id,
    unary main_v5 main_v6 (broadcastInDim S1 ![] bcast_S_S1),
    binary main_v3 main_v6 main_v7 (fun a b => concatenate S2 0 [⟨S1, a⟩, ⟨S1, b⟩] concatenates_S1_S1_S2_d0),
    nullary main_cst (constant S_ .f32 0x00000000#32),
    nullary main_cst_4 (constant S_ .f32 0x3F800000#32),
    unary main_cst main_call0_v0 id,
    unary main_cst_4 main_call0_v1 id,
    unary main_call0_v0 main_call0_v2 (broadcastInDim S1x1x1 ![] bcast_S_S1x1x1),
    unary main_call0_v1 main_call0_v3 (broadcastInDim S1x1x1 ![] bcast_S_S1x1x1),
    unary main_v7 main_call0_v4 (extractStridedSlice S1 ![0] · slices_S2_S1_0),
    reshape main_call0_v4 main_call0_v5 rfl shapeCasts_S1_S_,
    unary main_v7 main_call0_v6 (extractStridedSlice S1 ![1] · slices_S2_S1_1),
    reshape main_call0_v6 main_call0_v7 rfl shapeCasts_S1_S_,
    nullary main_call0_v8 (iotaInDim S1x8192x64 64 0),
    nullary main_call0_v9 (iotaInDim S1x8192x64 64 1),
    nullary main_call0_v10 (iotaInDim S1x8192x64 64 2),
    nullary main_call0_c (constantI S_ 64 524288#64),
    unary main_call0_c main_call0_v11 (broadcastInDim S1x8192x64 ![] bcast_S_S1x8192x64),
    binary main_call0_v11 main_call0_v8 main_call0_v12 muli,
    nullary main_call0_c_0 (constantI S_ 64 64#64),
    unary main_call0_c_0 main_call0_v13 (broadcastInDim S1x8192x64 ![] bcast_S_S1x8192x64),
    binary main_call0_v13 main_call0_v9 main_call0_v14 muli,
    nullary main_call0_c_1 (constantI S_ 64 1#64),
    unary main_call0_c_1 main_call0_v15 (broadcastInDim S1x8192x64 ![] bcast_S_S1x8192x64),
    binary main_call0_v15 main_call0_v10 main_call0_v16 muli,
    binary main_call0_v12 main_call0_v14 main_call0_v17 addi,
    binary main_call0_v17 main_call0_v16 main_call0_v18 addi,
    nullary main_call0_c_2 (constantI S_ 64 32#64),
    unary main_call0_c_2 main_call0_v19 (broadcastInDim S1x8192x64 ![] bcast_S_S1x8192x64),
    binary main_call0_v18 main_call0_v19 main_call0_v20 Host.shrui,
    unary main_call0_v18 main_call0_v21 (trunci 32 · natLt_32_64),
    unary main_call0_v20 main_call0_v22 (trunci 32 · natLt_32_64),
    binary main_call0_v5 main_call0_v7 main_call0_call0_v0 xori,
    nullary main_call0_call0_c (constantI S_ 32 466688986#32),
    binary main_call0_call0_v0 main_call0_call0_c main_call0_call0_v1 xori,
    unary main_call0_v5 main_call0_call0_v2 (broadcastInDim S1x8192x64 ![] bcast_S_S1x8192x64),
    binary main_call0_v22 main_call0_call0_v2 main_call0_call0_v3 addi,
    unary main_call0_v7 main_call0_call0_v4 (broadcastInDim S1x8192x64 ![] bcast_S_S1x8192x64),
    binary main_call0_v21 main_call0_call0_v4 main_call0_call0_v5 addi,
    binary main_call0_call0_v3 main_call0_call0_v5 main_call0_call0_v6 addi,
    nullary main_call0_call0_c_0 (constantI S_ 32 13#32),
    unary main_call0_call0_c_0 main_call0_call0_v7 (broadcastInDim S1x8192x64 ![] bcast_S_S1x8192x64),
    binary main_call0_call0_v5 main_call0_call0_v7 main_call0_call0_v8 Host.shli,
    nullary main_call0_call0_c_1 (constantI S_ 32 19#32),
    unary main_call0_call0_c_1 main_call0_call0_v9 (broadcastInDim S1x8192x64 ![] bcast_S_S1x8192x64),
    binary main_call0_call0_v5 main_call0_call0_v9 main_call0_call0_v10 Host.shrui,
    binary main_call0_call0_v8 main_call0_call0_v10 main_call0_call0_v11 ori,
    binary main_call0_call0_v6 main_call0_call0_v11 main_call0_call0_v12 xori,
    binary main_call0_call0_v6 main_call0_call0_v12 main_call0_call0_v13 addi,
    nullary main_call0_call0_c_2 (constantI S_ 32 15#32),
    unary main_call0_call0_c_2 main_call0_call0_v14 (broadcastInDim S1x8192x64 ![] bcast_S_S1x8192x64),
    binary main_call0_call0_v12 main_call0_call0_v14 main_call0_call0_v15 Host.shli,
    nullary main_call0_call0_c_3 (constantI S_ 32 17#32),
    unary main_call0_call0_c_3 main_call0_call0_v16 (broadcastInDim S1x8192x64 ![] bcast_S_S1x8192x64),
    binary main_call0_call0_v12 main_call0_call0_v16 main_call0_call0_v17 Host.shrui,
    binary main_call0_call0_v15 main_call0_call0_v17 main_call0_call0_v18 ori,
    binary main_call0_call0_v13 main_call0_call0_v18 main_call0_call0_v19 xori,
    binary main_call0_call0_v13 main_call0_call0_v19 main_call0_call0_v20 addi,
    nullary main_call0_call0_c_4 (constantI S_ 32 26#32),
    unary main_call0_call0_c_4 main_call0_call0_v21 (broadcastInDim S1x8192x64 ![] bcast_S_S1x8192x64),
    binary main_call0_call0_v19 main_call0_call0_v21 main_call0_call0_v22 Host.shli,
    nullary main_call0_call0_c_5 (constantI S_ 32 6#32),
    unary main_call0_call0_c_5 main_call0_call0_v23 (broadcastInDim S1x8192x64 ![] bcast_S_S1x8192x64),
    binary main_call0_call0_v19 main_call0_call0_v23 main_call0_call0_v24 Host.shrui,
    binary main_call0_call0_v22 main_call0_call0_v24 main_call0_call0_v25 ori,
    binary main_call0_call0_v20 main_call0_call0_v25 main_call0_call0_v26 xori,
    binary main_call0_call0_v20 main_call0_call0_v26 main_call0_call0_v27 addi,
    nullary main_call0_call0_c_6 (constantI S_ 32 6#32),
    unary main_call0_call0_c_6 main_call0_call0_v28 (broadcastInDim S1x8192x64 ![] bcast_S_S1x8192x64),
    binary main_call0_call0_v26 main_call0_call0_v28 main_call0_call0_v29 Host.shli,
    nullary main_call0_call0_c_7 (constantI S_ 32 26#32),
    unary main_call0_call0_c_7 main_call0_call0_v30 (broadcastInDim S1x8192x64 ![] bcast_S_S1x8192x64),
    binary main_call0_call0_v26 main_call0_call0_v30 main_call0_call0_v31 Host.shrui,
    binary main_call0_call0_v29 main_call0_call0_v31 main_call0_call0_v32 ori,
    binary main_call0_call0_v27 main_call0_call0_v32 main_call0_call0_v33 xori,
    unary main_call0_v7 main_call0_call0_v34 (broadcastInDim S1x8192x64 ![] bcast_S_S1x8192x64),
    binary main_call0_call0_v27 main_call0_call0_v34 main_call0_call0_v35 addi,
    unary main_call0_call0_v1 main_call0_call0_v36 (broadcastInDim S1x8192x64 ![] bcast_S_S1x8192x64),
    binary main_call0_call0_v33 main_call0_call0_v36 main_call0_call0_v37 addi,
    nullary main_call0_call0_c_8 (constantI S_ 32 1#32),
    unary main_call0_call0_c_8 main_call0_call0_v38 (broadcastInDim S1x8192x64 ![] bcast_S_S1x8192x64),
    binary main_call0_call0_v37 main_call0_call0_v38 main_call0_call0_v39 addi,
    binary main_call0_call0_v35 main_call0_call0_v39 main_call0_call0_v40 addi,
    nullary main_call0_call0_c_9 (constantI S_ 32 17#32),
    unary main_call0_call0_c_9 main_call0_call0_v41 (broadcastInDim S1x8192x64 ![] bcast_S_S1x8192x64),
    binary main_call0_call0_v39 main_call0_call0_v41 main_call0_call0_v42 Host.shli,
    nullary main_call0_call0_c_10 (constantI S_ 32 15#32),
    unary main_call0_call0_c_10 main_call0_call0_v43 (broadcastInDim S1x8192x64 ![] bcast_S_S1x8192x64),
    binary main_call0_call0_v39 main_call0_call0_v43 main_call0_call0_v44 Host.shrui,
    binary main_call0_call0_v42 main_call0_call0_v44 main_call0_call0_v45 ori,
    binary main_call0_call0_v40 main_call0_call0_v45 main_call0_call0_v46 xori,
    binary main_call0_call0_v40 main_call0_call0_v46 main_call0_call0_v47 addi,
    nullary main_call0_call0_c_11 (constantI S_ 32 29#32),
    unary main_call0_call0_c_11 main_call0_call0_v48 (broadcastInDim S1x8192x64 ![] bcast_S_S1x8192x64),
    binary main_call0_call0_v46 main_call0_call0_v48 main_call0_call0_v49 Host.shli,
    nullary main_call0_call0_c_12 (constantI S_ 32 3#32),
    unary main_call0_call0_c_12 main_call0_call0_v50 (broadcastInDim S1x8192x64 ![] bcast_S_S1x8192x64),
    binary main_call0_call0_v46 main_call0_call0_v50 main_call0_call0_v51 Host.shrui,
    binary main_call0_call0_v49 main_call0_call0_v51 main_call0_call0_v52 ori,
    binary main_call0_call0_v47 main_call0_call0_v52 main_call0_call0_v53 xori,
    binary main_call0_call0_v47 main_call0_call0_v53 main_call0_call0_v54 addi,
    nullary main_call0_call0_c_13 (constantI S_ 32 16#32),
    unary main_call0_call0_c_13 main_call0_call0_v55 (broadcastInDim S1x8192x64 ![] bcast_S_S1x8192x64),
    binary main_call0_call0_v53 main_call0_call0_v55 main_call0_call0_v56 Host.shli,
    nullary main_call0_call0_c_14 (constantI S_ 32 16#32),
    unary main_call0_call0_c_14 main_call0_call0_v57 (broadcastInDim S1x8192x64 ![] bcast_S_S1x8192x64),
    binary main_call0_call0_v53 main_call0_call0_v57 main_call0_call0_v58 Host.shrui,
    binary main_call0_call0_v56 main_call0_call0_v58 main_call0_call0_v59 ori,
    binary main_call0_call0_v54 main_call0_call0_v59 main_call0_call0_v60 xori,
    binary main_call0_call0_v54 main_call0_call0_v60 main_call0_call0_v61 addi,
    nullary main_call0_call0_c_15 (constantI S_ 32 24#32),
    unary main_call0_call0_c_15 main_call0_call0_v62 (broadcastInDim S1x8192x64 ![] bcast_S_S1x8192x64),
    binary main_call0_call0_v60 main_call0_call0_v62 main_call0_call0_v63 Host.shli,
    nullary main_call0_call0_c_16 (constantI S_ 32 8#32),
    unary main_call0_call0_c_16 main_call0_call0_v64 (broadcastInDim S1x8192x64 ![] bcast_S_S1x8192x64),
    binary main_call0_call0_v60 main_call0_call0_v64 main_call0_call0_v65 Host.shrui,
    binary main_call0_call0_v63 main_call0_call0_v65 main_call0_call0_v66 ori,
    binary main_call0_call0_v61 main_call0_call0_v66 main_call0_call0_v67 xori,
    unary main_call0_call0_v1 main_call0_call0_v68 (broadcastInDim S1x8192x64 ![] bcast_S_S1x8192x64),
    binary main_call0_call0_v61 main_call0_call0_v68 main_call0_call0_v69 addi,
    unary main_call0_v5 main_call0_call0_v70 (broadcastInDim S1x8192x64 ![] bcast_S_S1x8192x64),
    binary main_call0_call0_v67 main_call0_call0_v70 main_call0_call0_v71 addi,
    nullary main_call0_call0_c_17 (constantI S_ 32 2#32),
    unary main_call0_call0_c_17 main_call0_call0_v72 (broadcastInDim S1x8192x64 ![] bcast_S_S1x8192x64),
    binary main_call0_call0_v71 main_call0_call0_v72 main_call0_call0_v73 addi,
    binary main_call0_call0_v69 main_call0_call0_v73 main_call0_call0_v74 addi,
    nullary main_call0_call0_c_18 (constantI S_ 32 13#32),
    unary main_call0_call0_c_18 main_call0_call0_v75 (broadcastInDim S1x8192x64 ![] bcast_S_S1x8192x64),
    binary main_call0_call0_v73 main_call0_call0_v75 main_call0_call0_v76 Host.shli,
    nullary main_call0_call0_c_19 (constantI S_ 32 19#32),
    unary main_call0_call0_c_19 main_call0_call0_v77 (broadcastInDim S1x8192x64 ![] bcast_S_S1x8192x64),
    binary main_call0_call0_v73 main_call0_call0_v77 main_call0_call0_v78 Host.shrui,
    binary main_call0_call0_v76 main_call0_call0_v78 main_call0_call0_v79 ori,
    binary main_call0_call0_v74 main_call0_call0_v79 main_call0_call0_v80 xori,
    binary main_call0_call0_v74 main_call0_call0_v80 main_call0_call0_v81 addi,
    nullary main_call0_call0_c_20 (constantI S_ 32 15#32),
    unary main_call0_call0_c_20 main_call0_call0_v82 (broadcastInDim S1x8192x64 ![] bcast_S_S1x8192x64),
    binary main_call0_call0_v80 main_call0_call0_v82 main_call0_call0_v83 Host.shli,
    nullary main_call0_call0_c_21 (constantI S_ 32 17#32),
    unary main_call0_call0_c_21 main_call0_call0_v84 (broadcastInDim S1x8192x64 ![] bcast_S_S1x8192x64),
    binary main_call0_call0_v80 main_call0_call0_v84 main_call0_call0_v85 Host.shrui,
    binary main_call0_call0_v83 main_call0_call0_v85 main_call0_call0_v86 ori,
    binary main_call0_call0_v81 main_call0_call0_v86 main_call0_call0_v87 xori,
    binary main_call0_call0_v81 main_call0_call0_v87 main_call0_call0_v88 addi,
    nullary main_call0_call0_c_22 (constantI S_ 32 26#32),
    unary main_call0_call0_c_22 main_call0_call0_v89 (broadcastInDim S1x8192x64 ![] bcast_S_S1x8192x64),
    binary main_call0_call0_v87 main_call0_call0_v89 main_call0_call0_v90 Host.shli,
    nullary main_call0_call0_c_23 (constantI S_ 32 6#32),
    unary main_call0_call0_c_23 main_call0_call0_v91 (broadcastInDim S1x8192x64 ![] bcast_S_S1x8192x64),
    binary main_call0_call0_v87 main_call0_call0_v91 main_call0_call0_v92 Host.shrui,
    binary main_call0_call0_v90 main_call0_call0_v92 main_call0_call0_v93 ori,
    binary main_call0_call0_v88 main_call0_call0_v93 main_call0_call0_v94 xori,
    binary main_call0_call0_v88 main_call0_call0_v94 main_call0_call0_v95 addi,
    nullary main_call0_call0_c_24 (constantI S_ 32 6#32),
    unary main_call0_call0_c_24 main_call0_call0_v96 (broadcastInDim S1x8192x64 ![] bcast_S_S1x8192x64),
    binary main_call0_call0_v94 main_call0_call0_v96 main_call0_call0_v97 Host.shli,
    nullary main_call0_call0_c_25 (constantI S_ 32 26#32),
    unary main_call0_call0_c_25 main_call0_call0_v98 (broadcastInDim S1x8192x64 ![] bcast_S_S1x8192x64),
    binary main_call0_call0_v94 main_call0_call0_v98 main_call0_call0_v99 Host.shrui,
    binary main_call0_call0_v97 main_call0_call0_v99 main_call0_call0_v100 ori,
    binary main_call0_call0_v95 main_call0_call0_v100 main_call0_call0_v101 xori,
    unary main_call0_v5 main_call0_call0_v102 (broadcastInDim S1x8192x64 ![] bcast_S_S1x8192x64),
    binary main_call0_call0_v95 main_call0_call0_v102 main_call0_call0_v103 addi,
    unary main_call0_v7 main_call0_call0_v104 (broadcastInDim S1x8192x64 ![] bcast_S_S1x8192x64),
    binary main_call0_call0_v101 main_call0_call0_v104 main_call0_call0_v105 addi,
    nullary main_call0_call0_c_26 (constantI S_ 32 3#32),
    unary main_call0_call0_c_26 main_call0_call0_v106 (broadcastInDim S1x8192x64 ![] bcast_S_S1x8192x64),
    binary main_call0_call0_v105 main_call0_call0_v106 main_call0_call0_v107 addi,
    binary main_call0_call0_v103 main_call0_call0_v107 main_call0_call0_v108 addi,
    nullary main_call0_call0_c_27 (constantI S_ 32 17#32),
    unary main_call0_call0_c_27 main_call0_call0_v109 (broadcastInDim S1x8192x64 ![] bcast_S_S1x8192x64),
    binary main_call0_call0_v107 main_call0_call0_v109 main_call0_call0_v110 Host.shli,
    nullary main_call0_call0_c_28 (constantI S_ 32 15#32),
    unary main_call0_call0_c_28 main_call0_call0_v111 (broadcastInDim S1x8192x64 ![] bcast_S_S1x8192x64),
    binary main_call0_call0_v107 main_call0_call0_v111 main_call0_call0_v112 Host.shrui,
    binary main_call0_call0_v110 main_call0_call0_v112 main_call0_call0_v113 ori,
    binary main_call0_call0_v108 main_call0_call0_v113 main_call0_call0_v114 xori,
    binary main_call0_call0_v108 main_call0_call0_v114 main_call0_call0_v115 addi,
    nullary main_call0_call0_c_29 (constantI S_ 32 29#32),
    unary main_call0_call0_c_29 main_call0_call0_v116 (broadcastInDim S1x8192x64 ![] bcast_S_S1x8192x64),
    binary main_call0_call0_v114 main_call0_call0_v116 main_call0_call0_v117 Host.shli,
    nullary main_call0_call0_c_30 (constantI S_ 32 3#32),
    unary main_call0_call0_c_30 main_call0_call0_v118 (broadcastInDim S1x8192x64 ![] bcast_S_S1x8192x64),
    binary main_call0_call0_v114 main_call0_call0_v118 main_call0_call0_v119 Host.shrui,
    binary main_call0_call0_v117 main_call0_call0_v119 main_call0_call0_v120 ori,
    binary main_call0_call0_v115 main_call0_call0_v120 main_call0_call0_v121 xori,
    binary main_call0_call0_v115 main_call0_call0_v121 main_call0_call0_v122 addi,
    nullary main_call0_call0_c_31 (constantI S_ 32 16#32),
    unary main_call0_call0_c_31 main_call0_call0_v123 (broadcastInDim S1x8192x64 ![] bcast_S_S1x8192x64),
    binary main_call0_call0_v121 main_call0_call0_v123 main_call0_call0_v124 Host.shli,
    nullary main_call0_call0_c_32 (constantI S_ 32 16#32),
    unary main_call0_call0_c_32 main_call0_call0_v125 (broadcastInDim S1x8192x64 ![] bcast_S_S1x8192x64),
    binary main_call0_call0_v121 main_call0_call0_v125 main_call0_call0_v126 Host.shrui,
    binary main_call0_call0_v124 main_call0_call0_v126 main_call0_call0_v127 ori,
    binary main_call0_call0_v122 main_call0_call0_v127 main_call0_call0_v128 xori,
    binary main_call0_call0_v122 main_call0_call0_v128 main_call0_call0_v129 addi,
    nullary main_call0_call0_c_33 (constantI S_ 32 24#32),
    unary main_call0_call0_c_33 main_call0_call0_v130 (broadcastInDim S1x8192x64 ![] bcast_S_S1x8192x64),
    binary main_call0_call0_v128 main_call0_call0_v130 main_call0_call0_v131 Host.shli,
    nullary main_call0_call0_c_34 (constantI S_ 32 8#32),
    unary main_call0_call0_c_34 main_call0_call0_v132 (broadcastInDim S1x8192x64 ![] bcast_S_S1x8192x64),
    binary main_call0_call0_v128 main_call0_call0_v132 main_call0_call0_v133 Host.shrui,
    binary main_call0_call0_v131 main_call0_call0_v133 main_call0_call0_v134 ori,
    binary main_call0_call0_v129 main_call0_call0_v134 main_call0_call0_v135 xori,
    unary main_call0_v7 main_call0_call0_v136 (broadcastInDim S1x8192x64 ![] bcast_S_S1x8192x64),
    binary main_call0_call0_v129 main_call0_call0_v136 main_call0_call0_v137 addi,
    unary main_call0_call0_v1 main_call0_call0_v138 (broadcastInDim S1x8192x64 ![] bcast_S_S1x8192x64),
    binary main_call0_call0_v135 main_call0_call0_v138 main_call0_call0_v139 addi,
    nullary main_call0_call0_c_35 (constantI S_ 32 4#32),
    unary main_call0_call0_c_35 main_call0_call0_v140 (broadcastInDim S1x8192x64 ![] bcast_S_S1x8192x64),
    binary main_call0_call0_v139 main_call0_call0_v140 main_call0_call0_v141 addi,
    binary main_call0_call0_v137 main_call0_call0_v141 main_call0_call0_v142 addi,
    nullary main_call0_call0_c_36 (constantI S_ 32 13#32),
    unary main_call0_call0_c_36 main_call0_call0_v143 (broadcastInDim S1x8192x64 ![] bcast_S_S1x8192x64),
    binary main_call0_call0_v141 main_call0_call0_v143 main_call0_call0_v144 Host.shli,
    nullary main_call0_call0_c_37 (constantI S_ 32 19#32),
    unary main_call0_call0_c_37 main_call0_call0_v145 (broadcastInDim S1x8192x64 ![] bcast_S_S1x8192x64),
    binary main_call0_call0_v141 main_call0_call0_v145 main_call0_call0_v146 Host.shrui,
    binary main_call0_call0_v144 main_call0_call0_v146 main_call0_call0_v147 ori,
    binary main_call0_call0_v142 main_call0_call0_v147 main_call0_call0_v148 xori,
    binary main_call0_call0_v142 main_call0_call0_v148 main_call0_call0_v149 addi,
    nullary main_call0_call0_c_38 (constantI S_ 32 15#32),
    unary main_call0_call0_c_38 main_call0_call0_v150 (broadcastInDim S1x8192x64 ![] bcast_S_S1x8192x64),
    binary main_call0_call0_v148 main_call0_call0_v150 main_call0_call0_v151 Host.shli,
    nullary main_call0_call0_c_39 (constantI S_ 32 17#32),
    unary main_call0_call0_c_39 main_call0_call0_v152 (broadcastInDim S1x8192x64 ![] bcast_S_S1x8192x64),
    binary main_call0_call0_v148 main_call0_call0_v152 main_call0_call0_v153 Host.shrui,
    binary main_call0_call0_v151 main_call0_call0_v153 main_call0_call0_v154 ori,
    binary main_call0_call0_v149 main_call0_call0_v154 main_call0_call0_v155 xori,
    binary main_call0_call0_v149 main_call0_call0_v155 main_call0_call0_v156 addi,
    nullary main_call0_call0_c_40 (constantI S_ 32 26#32),
    unary main_call0_call0_c_40 main_call0_call0_v157 (broadcastInDim S1x8192x64 ![] bcast_S_S1x8192x64),
    binary main_call0_call0_v155 main_call0_call0_v157 main_call0_call0_v158 Host.shli,
    nullary main_call0_call0_c_41 (constantI S_ 32 6#32),
    unary main_call0_call0_c_41 main_call0_call0_v159 (broadcastInDim S1x8192x64 ![] bcast_S_S1x8192x64),
    binary main_call0_call0_v155 main_call0_call0_v159 main_call0_call0_v160 Host.shrui,
    binary main_call0_call0_v158 main_call0_call0_v160 main_call0_call0_v161 ori,
    binary main_call0_call0_v156 main_call0_call0_v161 main_call0_call0_v162 xori,
    binary main_call0_call0_v156 main_call0_call0_v162 main_call0_call0_v163 addi,
    nullary main_call0_call0_c_42 (constantI S_ 32 6#32),
    unary main_call0_call0_c_42 main_call0_call0_v164 (broadcastInDim S1x8192x64 ![] bcast_S_S1x8192x64),
    binary main_call0_call0_v162 main_call0_call0_v164 main_call0_call0_v165 Host.shli,
    nullary main_call0_call0_c_43 (constantI S_ 32 26#32),
    unary main_call0_call0_c_43 main_call0_call0_v166 (broadcastInDim S1x8192x64 ![] bcast_S_S1x8192x64),
    binary main_call0_call0_v162 main_call0_call0_v166 main_call0_call0_v167 Host.shrui,
    binary main_call0_call0_v165 main_call0_call0_v167 main_call0_call0_v168 ori,
    binary main_call0_call0_v163 main_call0_call0_v168 main_call0_call0_v169 xori,
    unary main_call0_call0_v1 main_call0_call0_v170 (broadcastInDim S1x8192x64 ![] bcast_S_S1x8192x64),
    binary main_call0_call0_v163 main_call0_call0_v170 main_call0_v23_0 addi,
    unary main_call0_v5 main_call0_call0_v172 (broadcastInDim S1x8192x64 ![] bcast_S_S1x8192x64),
    binary main_call0_call0_v169 main_call0_call0_v172 main_call0_call0_v173 addi,
    nullary main_call0_call0_c_44 (constantI S_ 32 5#32),
    unary main_call0_call0_c_44 main_call0_call0_v174 (broadcastInDim S1x8192x64 ![] bcast_S_S1x8192x64),
    binary main_call0_call0_v173 main_call0_call0_v174 main_call0_v23_1 addi,
    binary main_call0_v23_0 main_call0_v23_1 main_call0_v24 xori,
    nullary main_call0_c_3 (constantI S_ 32 9#32),
    unary main_call0_c_3 main_call0_v25 (broadcastInDim S1x8192x64 ![] bcast_S_S1x8192x64),
    binary main_call0_v24 main_call0_v25 main_call0_v26 Host.shrui,
    nullary main_call0_c_4 (constantI S_ 32 1065353216#32),
    unary main_call0_c_4 main_call0_v27 (broadcastInDim S1x8192x64 ![] bcast_S_S1x8192x64),
    binary main_call0_v26 main_call0_v27 main_call0_v28 ori,
    unary main_call0_v28 main_call0_v29 (bitcastToFloat .f32),
    nullary main_call0_cst (constant S_ .f32 0x3F800000#32),
    unary main_call0_cst main_call0_v30 (broadcastInDim S1x8192x64 ![] bcast_S_S1x8192x64),
    binary main_call0_v29 main_call0_v30 main_call0_v31 subf,
    binary main_call0_v3 main_call0_v2 main_call0_v32 subf,
    unary main_call0_v32 main_call0_v33 (broadcastInDim S1x8192x64 ![0, 1, 2] bcast_S1x1x1_S1x8192x64_0_1_2),
    binary main_call0_v31 main_call0_v33 main_call0_v34 mulf,
    unary main_call0_v2 main_call0_v35 (broadcastInDim S1x8192x64 ![0, 1, 2] bcast_S1x1x1_S1x8192x64_0_1_2),
    binary main_call0_v34 main_call0_v35 main_call0_v36 addf,
    unary main_call0_v2 main_call0_v37 (broadcastInDim S1x8192x64 ![0, 1, 2] bcast_S1x1x1_S1x8192x64_0_1_2),
    binary main_call0_v37 main_call0_v36 main_v8 maximumf,
    nullary main_cst_5 (constant S_ .f32 0x1E3CE508#32),
    unary main_cst_5 main_v9 (broadcastInDim S1x8192x64 ![] bcast_S_S1x8192x64),
    binary main_v8 main_v9 main_v10 addf ]

set_option maxHeartbeats 4000000 in
set_option synthInstance.maxSize 100000 in
set_option synthInstance.maxHeartbeats 4000000 in
theorem numbered : Numbered 3 (opsU : List (HloOp τ sig (Elt F))) := by
  simp only [opsU, numbered_nullary, numbered_unary, numbered_binary, numbered_reshape, numbered_nil, Nat.reduceAdd]
  decide +kernel

/-! ## The counters -/

/-- An entry's number, counted in 64-bit words. -/
theorem count_eq {a b c : ℕ} (ha : a < 1) : (524288#64 * BitVec.ofNat 64 a + 64#64 * BitVec.ofNat 64 b) + 1#64 * BitVec.ofNat 64 c
    = BitVec.ofNat 64 (b * 64 + c) := by
  obtain rfl : a = 0 := by omega
  rw [BitVec.one_mul, BitVec.ofNat_add, BitVec.ofNat_mul, BitVec.mul_comm (BitVec.ofNat 64 b)]
  simp

/-- Its lower half is the number, -/
theorem low_half (n : ℕ) : BitVec.setWidth 32 (BitVec.ofNat 64 n) = BitVec.ofNat 32 n := by
  apply BitVec.eq_of_toNat_eq
  rw [BitVec.toNat_setWidth, BitVec.toNat_ofNat, BitVec.toNat_ofNat]
  omega
/-- and its upper half zero. -/
theorem high_half {n : ℕ} (h : n < 2 ^ 32) : BitVec.setWidth 32 (IntOp.shrui .host (BitVec.ofNat 64 n) 32#64) = 0#32 := by
  have e : IntOp.shrui .host (BitVec.ofNat 64 n) 32#64 = BitVec.ofNat 64 n >>> 32 := rfl
  apply BitVec.eq_of_toNat_eq
  rw [e, BitVec.toNat_setWidth, BitVec.toNat_ushiftRight, BitVec.toNat_ofNat, Nat.shiftRight_eq_div_pow]
  show _ = 0
  omega

/-- The generator's third key word. -/
theorem key_third : (IntOp.shrui .host 42#32 32#32 ^^^ (42#32 &&& 4294967295#32)) ^^^ 466688986#32 = 466689008#32 := by decide

/-- An array of one element, without its axis. -/
theorem key_word (u : IVec S1 32) (i : S_.Idx) : shapeCast S_ u shapeCasts_S1_S_ i = u (ix1 0) := by
  refine shapeCast_apply u shapeCasts_S1_S_ i (ix1 0) ?_
  have a := (S1.rowMajor (ix1 0)).isLt
  have b := (S_.rowMajor i).isLt
  change _ < 1 at a b
  omega

/-- The draw's start: the constants, the second argument spread over a leading axis, the generator's key words and the span's
    ends, and the counters with the first key addition. -/
theorem start
    {m_arg1 : FVec F S8192x64 .f32} {m_c : IVec S1 32} {m_c_0 : IVec S1 32} {m_v0 : FVec F S1x8192x64 .f32} {m_c_1 : IVec S_
    32} {m_c_2 : IVec S_ 32} {m_v1 : IVec S_ 32} {m_v2 : IVec S_ 32} {m_v3 : IVec S1 32} {m_c_3 : IVec S_ 32} {m_v4 : IVec
    S_ 32} {m_v5 : IVec S_ 32} {m_v6 : IVec S1 32} {m_v7 : IVec S2 32} {m_cst : FVec F S_ .f32} {m_cst_4 : FVec F S_ .f32}
    {p_v0 : FVec F S_ .f32} {p_v1 : FVec F S_ .f32} {p_v2 : FVec F S1x1x1 .f32} {p_v3 : FVec F S1x1x1 .f32} {p_v4 : IVec S1
    32} {p_v5 : IVec S_ 32} {p_v6 : IVec S1 32} {p_v7 : IVec S_ 32} {p_v8 : IVec S1x8192x64 64} {p_v9 : IVec S1x8192x64 64}
    {p_v10 : IVec S1x8192x64 64} {p_c : IVec S_ 64} {p_v11 : IVec S1x8192x64 64} {p_v12 : IVec S1x8192x64 64} {p_c_0 : IVec
    S_ 64} {p_v13 : IVec S1x8192x64 64} {p_v14 : IVec S1x8192x64 64} {p_c_1 : IVec S_ 64} {p_v15 : IVec S1x8192x64 64}
    {p_v16 : IVec S1x8192x64 64} {p_v17 : IVec S1x8192x64 64} {p_v18 : IVec S1x8192x64 64} {p_c_2 : IVec S_ 64} {p_v19 :
    IVec S1x8192x64 64} {p_v20 : IVec S1x8192x64 64} {p_v21 : IVec S1x8192x64 32} {p_v22 : IVec S1x8192x64 32} {q_v0 : IVec
    S_ 32} {q_c : IVec S_ 32} {q_v1 : IVec S_ 32} {q_v2 : IVec S1x8192x64 32} {q_v3 : IVec S1x8192x64 32} {q_v4 : IVec
    S1x8192x64 32} {q_v5 : IVec S1x8192x64 32} {R : Prop}
    (h : (m_c = constantI S1 32 64#32) ∧ (m_c_0 = constantI S1 32 65#32) ∧ (m_v0 = broadcastInDim S1x8192x64 ![1, 2]
    bcast_S8192x64_S1x8192x64_1_2 m_arg1) ∧ (m_c_1 = constantI S_ 32 42#32) ∧ (m_c_2 = constantI S_ 32 32#32) ∧ (m_v1 =
    Host.shrui m_c_1 m_c_2) ∧ (m_v2 = id m_v1) ∧ (m_v3 = broadcastInDim S1 ![] bcast_S_S1 m_v2) ∧ (m_c_3 = constantI S_ 32
    4294967295#32) ∧ (m_v4 = andi m_c_1 m_c_3) ∧ (m_v5 = id m_v4) ∧ (m_v6 = broadcastInDim S1 ![] bcast_S_S1 m_v5) ∧ (m_v7 =
    concatenate S2 0 [⟨S1, m_v3⟩, ⟨S1, m_v6⟩] concatenates_S1_S1_S2_d0) ∧ (m_cst = constant S_ .f32 0x00000000#32) ∧
    (m_cst_4 = constant S_ .f32 0x3F800000#32) ∧ (p_v0 = id m_cst) ∧ (p_v1 = id m_cst_4) ∧ (p_v2 = broadcastInDim S1x1x1 ![]
    bcast_S_S1x1x1 p_v0) ∧ (p_v3 = broadcastInDim S1x1x1 ![] bcast_S_S1x1x1 p_v1) ∧ (p_v4 = extractStridedSlice S1 ![0] m_v7
    slices_S2_S1_0) ∧ (p_v5 = (fun i => shapeCast S_ p_v4 shapeCasts_S1_S_ i)) ∧ (p_v6 = extractStridedSlice S1 ![1] m_v7
    slices_S2_S1_1) ∧ (p_v7 = (fun i => shapeCast S_ p_v6 shapeCasts_S1_S_ i)) ∧ (p_v8 = iotaInDim S1x8192x64 64 0) ∧ (p_v9
    = iotaInDim S1x8192x64 64 1) ∧ (p_v10 = iotaInDim S1x8192x64 64 2) ∧ (p_c = constantI S_ 64 524288#64) ∧ (p_v11 =
    broadcastInDim S1x8192x64 ![] bcast_S_S1x8192x64 p_c) ∧ (p_v12 = muli p_v11 p_v8) ∧ (p_c_0 = constantI S_ 64 64#64) ∧
    (p_v13 = broadcastInDim S1x8192x64 ![] bcast_S_S1x8192x64 p_c_0) ∧ (p_v14 = muli p_v13 p_v9) ∧ (p_c_1 = constantI S_ 64
    1#64) ∧ (p_v15 = broadcastInDim S1x8192x64 ![] bcast_S_S1x8192x64 p_c_1) ∧ (p_v16 = muli p_v15 p_v10) ∧ (p_v17 = addi
    p_v12 p_v14) ∧ (p_v18 = addi p_v17 p_v16) ∧ (p_c_2 = constantI S_ 64 32#64) ∧ (p_v19 = broadcastInDim S1x8192x64 ![]
    bcast_S_S1x8192x64 p_c_2) ∧ (p_v20 = Host.shrui p_v18 p_v19) ∧ (p_v21 = trunci 32 p_v18 natLt_32_64) ∧ (p_v22 = trunci
    32 p_v20 natLt_32_64) ∧ (q_v0 = xori p_v5 p_v7) ∧ (q_c = constantI S_ 32 466688986#32) ∧ (q_v1 = xori q_v0 q_c) ∧ (q_v2
    = broadcastInDim S1x8192x64 ![] bcast_S_S1x8192x64 p_v5) ∧ (q_v3 = addi p_v22 q_v2) ∧ (q_v4 = broadcastInDim S1x8192x64
    ![] bcast_S_S1x8192x64 p_v7) ∧ (q_v5 = addi p_v21 q_v4) ∧ R) :
    (m_c = constantI S1 32 64#32 ∧ m_c_0 = constantI S1 32 65#32
      ∧ m_v0 = broadcastInDim S1x8192x64 ![1, 2] bcast_S8192x64_S1x8192x64_1_2 m_arg1)
    ∧ p_v5 = constantI S_ 32 0#32 ∧ p_v7 = constantI S_ 32 42#32 ∧ q_v1 = constantI S_ 32 466689008#32
    ∧ p_v2 = constant S1x1x1 .f32 0x00000000#32 ∧ p_v3 = constant S1x1x1 .f32 0x3F800000#32
    ∧ Are q_v3 q_v5 (fun i => (0#32, count i + 42#32)) ∧ R := by
  obtain ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, hr⟩ := h
  have h0 (u v : IVec S1 32) : (fun i => shapeCast S_ (extractStridedSlice S1 ![0] (concatenate S2 0 [⟨S1, u⟩, ⟨S1, v⟩]
      concatenates_S1_S1_S2_d0) slices_S2_S1_0) shapeCasts_S1_S_ i) = fun _ => u (ix1 0) := funext fun i =>
    (key_word _ i).trans ((extractStridedSlice_apply ![0] _ slices_S2_S1_0 (ix1 0) (ix1 0) fun a => by
        match a with | ⟨0, _⟩ => rfl).trans
      (concatenate_pair_apply_left (0 : Fin S2.rank) u v concatenates_S1_S1_S2_d0 (ix1 0) rfl (ix1 0) fun a => by
        match a with | ⟨0, _⟩ => rfl))
  have h1 (u v : IVec S1 32) : (fun i => shapeCast S_ (extractStridedSlice S1 ![1] (concatenate S2 0 [⟨S1, u⟩, ⟨S1, v⟩]
      concatenates_S1_S1_S2_d0) slices_S2_S1_1) shapeCasts_S1_S_ i) = fun _ => v (ix1 0) := funext fun i =>
    (key_word _ i).trans ((extractStridedSlice_apply ![1] _ slices_S2_S1_1 (ix1 0) (ix1 1) fun a => by
        match a with | ⟨0, _⟩ => rfl).trans
      (concatenate_pair_apply_right (0 : Fin S2.rank) u v concatenates_S1_S1_S2_d0 (ix1 1) rfl rfl (ix1 0)
        (fun b hb => (hb (Subsingleton.elim (α := Fin 1) _ _)).elim) rfl))
  rw [h0, h1]
  refine ⟨⟨rfl, rfl, rfl⟩, rfl, rfl, funext fun _ => key_third, rfl, rfl, fun i => ?_, hr⟩
  have h1 : (i 1).val < 8192 := (i 1).isLt
  have h2 : (i 2).val < 64 := (i 2).isLt
  refine Prod.ext ?_ ?_
  · show BitVec.setWidth 32 (IntOp.shrui .host ((524288#64 * BitVec.ofNat 64 (i 0).val + 64#64 * BitVec.ofNat 64 (i 1).val)
      + 1#64 * BitVec.ofNat 64 (i 2).val) 32#64) + 0#32 = 0#32
    rw [count_eq (i 0).isLt, high_half (by omega)]
    rfl
  · show BitVec.setWidth 32 ((524288#64 * BitVec.ofNat 64 (i 0).val + 64#64 * BitVec.ofNat 64 (i 1).val)
      + 1#64 * BitVec.ofNat 64 (i 2).val) + 42#32 = count i + 42#32
    rw [count_eq (i 0).isLt, low_half]
    rfl

/-- The numbers from the words. -/
theorem finish {x0 x1 w b1 v26 b2 v28 : IVec S1x8192x64 32} {c1 c2 : IVec S_ 32} {k1 k2 : FVec F S_ .f32} {u2 u3 u32 : FVec F S1x1x1 .f32}
    {v29 v30 v31 v33 v34 v35 v36 v37 v38 v9 v10 : FVec F S1x8192x64 .f32}
    (e2 : u2 = constant S1x1x1 .f32 0x00000000#32) (e3 : u3 = constant S1x1x1 .f32 0x3F800000#32)
    (h : Are x0 x1 (fun i => pair (count i)) ∧ w = xori x0 x1
      ∧ c1 = constantI S_ 32 9#32 ∧ b1 = broadcastInDim S1x8192x64 ![] bcast_S_S1x8192x64 c1 ∧ v26 = Host.shrui w b1
      ∧ c2 = constantI S_ 32 1065353216#32 ∧ b2 = broadcastInDim S1x8192x64 ![] bcast_S_S1x8192x64 c2 ∧ v28 = ori v26 b2
      ∧ v29 = bitcastToFloat .f32 v28 ∧ k1 = constant S_ .f32 0x3F800000#32
      ∧ v30 = broadcastInDim S1x8192x64 ![] bcast_S_S1x8192x64 k1 ∧ v31 = subf v29 v30 ∧ u32 = subf u3 u2
      ∧ v33 = broadcastInDim S1x8192x64 ![0, 1, 2] bcast_S1x1x1_S1x8192x64_0_1_2 u32 ∧ v34 = mulf v31 v33
      ∧ v35 = broadcastInDim S1x8192x64 ![0, 1, 2] bcast_S1x1x1_S1x8192x64_0_1_2 u2 ∧ v36 = addf v34 v35
      ∧ v37 = broadcastInDim S1x8192x64 ![0, 1, 2] bcast_S1x1x1_S1x8192x64_0_1_2 u2 ∧ v38 = maximumf v37 v36
      ∧ k2 = constant S_ .f32 0x1E3CE508#32 ∧ v9 = broadcastInDim S1x8192x64 ![] bcast_S_S1x8192x64 k2
      ∧ v10 = addf v38 v9 ∧ True) : v10 = noise := by
  obtain ⟨hx, rfl, rfl, rfl, rfl, rfl, rfl, rfl, rfl, rfl, rfl, rfl, rfl, rfl, rfl, rfl, rfl, rfl, rfl, rfl, rfl, rfl, -⟩ := h
  subst e2 e3
  funext i
  have e0 : x0 i = (pair (count i)).1 := congrArg Prod.fst (hx i)
  have e1 : x1 i = (pair (count i)).2 := congrArg Prod.snd (hx i)
  show FloatOps.addf
    (FloatOps.maximumf (FloatOps.ofBits .f32 0x00000000#32)
      (FloatOps.addf
        (FloatOps.mulf
          (FloatOps.subf (FloatOps.ofBits .f32 (IntOp.shrui .host (x0 i ^^^ x1 i) 9#32 ||| 0x3F800000#32))
            (FloatOps.ofBits .f32 0x3F800000#32))
          (FloatOps.subf (FloatOps.ofBits .f32 0x3F800000#32) (FloatOps.ofBits .f32 0x00000000#32)))
        (FloatOps.ofBits .f32 0x00000000#32)))
    (FloatOps.ofBits .f32 0x1E3CE508#32) = _
  rw [e0, e1]
  rfl

set_option maxHeartbeats 4000000 in
/-- What the draw leaves. -/
theorem draw (V : Valuation τ sig (Elt F)) :
    (after opsU V (main_c : DevRef τ sig) = constantI S1 32 64#32
      ∧ after opsU V (main_c_0 : DevRef τ sig) = constantI S1 32 65#32
      ∧ after opsU V (main_v0 : DevRef τ sig)
        = broadcastInDim S1x8192x64 ![1, 2] bcast_S8192x64_S1x8192x64_1_2 (after opsU V (main_arg1 : DevRef τ sig)))
    ∧ after opsU V (main_v10 : DevRef τ sig) = noise := by
  have h := held numbered V
  generalize after opsU V = U at h ⊢
  simp (disch := decide) only [opsU, List.forall_cons, held_nullary, held_unary, held_binary, held_reshape] at h
  obtain ⟨hm, k0, k1, k2, e2, e3, h⟩ := start h
  refine ⟨hm, ?_⟩
  iterate 4 replace h := Are.turn' h
  replace h := Are.key' k1 k2 h
  iterate 4 replace h := Are.turn' h
  replace h := Are.key' k2 k0 h
  iterate 4 replace h := Are.turn' h
  replace h := Are.key' k0 k1 h
  iterate 4 replace h := Are.turn' h
  replace h := Are.key' k1 k2 h
  iterate 4 replace h := Are.turn' h
  replace h := Are.key' k2 k0 h
  exact finish e2 e3 h

end Cert.Proof.Ref

end
-- ==== Proof.RefRun.lean ====
/-
  The run of the reference: its @main is a straight line of host operations (the three functions it calls written out over
  their calls' buffers), so every buffer ends at the operations' results folded over the launch contents; `refF` and `refI`
  are the two results as functions of the argument `W`, step by step: the perturbed logits `z`, their exponentials `e`,
  the softmax `y`, its argmax `place`, the straight-through one-hot `st` and its entry at the argmax `taken`.
-/
module

public import proofs.«01_k».proof.Proof.RefDraw
public import Idealize.ShloMosaic.Lib.StableHlo.Run
public import Idealize.ShloMosaic.Lib.StableHlo.RunRead

@[expose] public section

set_option maxRecDepth 100000

noncomputable section

namespace Cert.Proof.Ref

open Cert.ReferenceIdeal
open Cert.ReferenceIdeal.Facts₀
open Idealize.ShloMosaic Idealize.ShloMosaic.TcCoe Idealize.ShloMosaic.StableHlo Idealize.SL.Sem
open Cert.Proof.Lines

variable {F : FTy → Type} [FloatOps F]

/-! ## The results, as functions of the argument -/

/-- The perturbed logits, over the temperature. -/
def z (W : FVec F S8192x64 .f32) : FVec F S1x8192x64 .f32 :=
  Host.divf (addf (broadcastInDim S1x8192x64 ![1, 2] bcast_S8192x64_S1x8192x64_1_2 W)
      (Host.negf (Host.log (Host.negf (Host.log noise)))))
    (broadcastInDim S1x8192x64 ![] bcast_S_S1x8192x64 (constant S_ .f32 0x3F800000#32))

/-- Each row's greatest logit. -/
def top (W : FVec F S8192x64 .f32) : FVec F S1x8192 .f32 :=
  maximumf (broadcastInDim S1x8192 ![] bcast_S_S1x8192 (constant S_ .f32 0xFF800000#32))
    (Host.reduce FloatOps.maximumf (z W) (constant S_ .f32 0xFF800000#32) reducesTo_S1x8192x64_S1x8192_d2 h_S_)

/-- A row's value at each of its 64 places. -/
def spread (v : FVec F S1x8192 .f32) : FVec F S1x8192x64 .f32 :=
  broadcastInDim S1x8192x64 ![0, 1, 2] bcast_S1x8192x1_S1x8192x64_0_1_2
    (broadcastInDim S1x8192x1 ![0, 1] bcast_S1x8192_S1x8192x1_0_1 v)

/-- The exponentials of the logits, each row's greatest subtracted. -/
def e (W : FVec F S8192x64 .f32) : FVec F S1x8192x64 .f32 := Host.exp (subf (z W) (spread (top W)))

/-- The softmax. -/
def y (W : FVec F S8192x64 .f32) : FVec F S1x8192x64 .f32 :=
  Host.divf (e W) (spread (Host.reduceAdd (e W) (constant S_ .f32 0x00000000#32) reducesTo_S1x8192x64_S1x8192_d2 h_S_))

/-- Where each row's softmax is greatest. -/
def place (W : FVec F S8192x64 .f32) : IVec S1x8192 32 := fun j =>
  (Host.argReduce reducer_argmax_f32_i32 (y W) (iotaInDim S1x8192x64 32 2) (constant S_ .f32 0xFF800000#32)
    (constantI S_ 32 0#32) reducesTo_S1x8192x64_S1x8192_d2 h_S_ j).2

/-- A place per row, as an array with a last axis of one. -/
def column (p : IVec S1x8192 32) : IVec S1x8192x1 32 := broadcastInDim S1x8192x1 ![0, 1] bcast_S1x8192_S1x8192x1_0_1 p

/-- One at a row's place, zero elsewhere. -/
def oneHot (p : IVec S1x8192 32) : FVec F S1x8192x64 .f32 :=
  uitofp .f32 (cmpi .eq (broadcastInDim S1x8192x64 ![0, 1, 2] bcast_S1x8192x1_S1x8192x64_0_1_2 (column p))
    (broadcastInDim S1x8192x64 ![0, 1, 2] bcast_S1x1x64_S1x8192x64_0_1_2 (iotaInDim S1x1x64 32 2)))

/-- The straight-through one-hot. -/
def st (W : FVec F S8192x64 .f32) : FVec F S1x8192x64 .f32 := addf (subf (oneHot (place W)) (y W)) (y W)

/-- A place counted from the end if negative, laid out for the gather. -/
def wrapped (p : IVec S1x8192x1 32) : IVec S8192x1x1 32 :=
  shapeCast S8192x1x1 (select (cmpi .slt p (broadcastInDim S1x8192x1 ![] bcast_S_S1x8192x1 (constantI S_ 32 0#32)))
    (addi p (broadcastInDim S1x8192x1 ![] bcast_S_S1x8192x1 (constantI S_ 32 64#32))) p) shapeCasts_S1x8192x1_S8192x1x1

/-- Whether a place lies in its row. -/
def inside (q : IVec S8192x1x1 32) : IVec S8192x1 1 :=
  Host.reduce IntOp.andi
    (andi (cmpi .sge q (broadcastInDim S8192x1x1 ![] bcast_S_S8192x1x1 (constantI S_ 32 0#32)))
      (cmpi .sle q (broadcastInDim S8192x1x1 ![0, 1, 2] bcast_S1x1x1_S8192x1x1_0_1_2
        (broadcastInDim S1x1x1 ![2] bcast_S1_S1x1x1_2 (constantI S1 32 63#32)))))
    (constantI S_ 1 1#1) reducesTo_S8192x1x1_S8192x1_d2 h_S_

/-- A row's entry at its place, where that lies in the row. -/
def takeAlong (x : FVec F S1x8192x64 .f32) (p : IVec S1x8192x1 32) : FVec F S1x8192x1 .f32 :=
  select (broadcastInDim S1x8192x1 ![1, 2] bcast_S8192x1_S1x8192x1_1_2 (inside (wrapped p)))
    (Host.gather gather_S1x8192x64_S8192x1x1_S1x8192x1_0_2_1_0_2_2_111 x (wrapped p))
    (broadcastInDim S1x8192x1 ![] bcast_S_S1x8192x1 (constant S_ .f32 0x7FC00000#32))

/-- The straight-through one-hot at each row's place. -/
def taken (W : FVec F S8192x64 .f32) : FVec F S1x8192x1 .f32 := takeAlong (st W) (column (place W))

/-- The first result: one, the rows' entries, one. -/
def refF (W : FVec F S8192x64 .f32) : FVec F S8194 .f32 :=
  concatenate S8194 0 [⟨S1, broadcastInDim S1 ![] bcast_S_S1 (constant S_ .f32 0x3F800000#32)⟩,
    ⟨S8192, shapeCast S8192 (taken W) shapeCasts_S1x8192x1_S8192⟩,
    ⟨S1, broadcastInDim S1 ![] bcast_S_S1 (constant S_ .f32 0x3F800000#32)⟩] concatenates_S1_S8192_S1_S8194_d0

/-- The second result: 64, the rows' places, 65. -/
def refI (W : FVec F S8192x64 .f32) : IVec S8194 32 :=
  concatenate S8194 0 [⟨S1, constantI S1 32 64#32⟩, ⟨S8192, shapeCast S8192 (place W) shapeCasts_S1x8192_S8192⟩,
    ⟨S1, constantI S1 32 65#32⟩] concatenates_S1_S8192_S1_S8194_d0

/-! ## The run -/

/-- @main's operations up to the results' parts, in order. -/
abbrev ops₀ : List (HloOp τ sig (Elt F)) :=
  [ unary main_v10 main_v11 Host.log,
    unary main_v11 main_v12 Host.negf,
    unary main_v12 main_v13 Host.log,
    unary main_v13 main_v14 Host.negf,
    binary main_v0 main_v14 main_v15 addf,
    nullary main_cst_6 (constant S_ .f32 0x3F800000#32),
    unary main_cst_6 main_v16 (broadcastInDim S1x8192x64 ![] bcast_S_S1x8192x64),
    binary main_v15 main_v16 main_v17 Host.divf,
    nullary main_cst_7 (constant S_ .f32 0xFF800000#32),
    binary main_v17 main_cst_7 main_v18 (fun x v => Host.reduce FloatOps.maximumf x v reducesTo_S1x8192x64_S1x8192_d2 h_S_),
    nullary main_cst_8 (constant S_ .f32 0xFF800000#32),
    unary main_cst_8 main_v19 (broadcastInDim S1x8192 ![] bcast_S_S1x8192),
    binary main_v19 main_v18 main_v20 maximumf,
    unary main_v20 main_v21 (broadcastInDim S1x8192x1 ![0, 1] bcast_S1x8192_S1x8192x1_0_1),
    unary main_v21 main_v22 (broadcastInDim S1x8192x64 ![0, 1, 2] bcast_S1x8192x1_S1x8192x64_0_1_2),
    binary main_v17 main_v22 main_v23 subf,
    unary main_v23 main_v24 Host.exp,
    nullary main_cst_9 (constant S_ .f32 0x00000000#32),
    binary main_v24 main_cst_9 main_v25 (fun x v => Host.reduceAdd x v reducesTo_S1x8192x64_S1x8192_d2 h_S_),
    unary main_v25 main_v26 (broadcastInDim S1x8192x1 ![0, 1] bcast_S1x8192_S1x8192x1_0_1),
    unary main_v26 main_v27 (broadcastInDim S1x8192x64 ![0, 1, 2] bcast_S1x8192x1_S1x8192x64_0_1_2),
    binary main_v24 main_v27 main_v28 Host.divf,
    nullary main_call1_v0 (iotaInDim S1x8192x64 32 2),
    nullary main_call1_cst (constant S_ .f32 0xFF800000#32),
    nullary main_call1_c (constantI S_ 32 0#32),
    quaternary main_v28 main_call1_v0 main_call1_cst main_call1_c main_call1_v1_0 (fun x y u v j =>
      (Host.argReduce reducer_argmax_f32_i32 x y u v reducesTo_S1x8192x64_S1x8192_d2 h_S_ j).1),
    quaternary main_v28 main_call1_v0 main_call1_cst main_call1_c main_v29 (fun x y u v j =>
      (Host.argReduce reducer_argmax_f32_i32 x y u v reducesTo_S1x8192x64_S1x8192_d2 h_S_ j).2),
    unary main_v29 main_call2_v0 (broadcastInDim S1x8192x1 ![0, 1] bcast_S1x8192_S1x8192x1_0_1),
    nullary main_call2_v1 (iotaInDim S1x1x64 32 2),
    unary main_call2_v0 main_call2_v2 (broadcastInDim S1x8192x64 ![0, 1, 2] bcast_S1x8192x1_S1x8192x64_0_1_2),
    unary main_call2_v1 main_call2_v3 (broadcastInDim S1x8192x64 ![0, 1, 2] bcast_S1x1x64_S1x8192x64_0_1_2),
    binary main_call2_v2 main_call2_v3 main_call2_v4 (cmpi .eq),
    unary main_call2_v4 main_v30 (uitofp .f32),
    binary main_v30 main_v28 main_v31 subf,
    binary main_v31 main_v28 main_v32 addf,
    unary main_v29 main_v33 (broadcastInDim S1x8192x1 ![0, 1] bcast_S1x8192_S1x8192x1_0_1),
    nullary main_call3_c (constantI S_ 32 0#32),
    unary main_call3_c main_call3_v0 (broadcastInDim S1x8192x1 ![] bcast_S_S1x8192x1),
    binary main_v33 main_call3_v0 main_call3_v1 (cmpi .slt),
    nullary main_call3_c_0 (constantI S_ 32 64#32),
    unary main_call3_c_0 main_call3_v2 (broadcastInDim S1x8192x1 ![] bcast_S_S1x8192x1),
    binary main_v33 main_call3_v2 main_call3_v3 addi,
    ternary main_call3_v1 main_call3_v3 main_v33 main_call3_v4 select,
    reshape main_call3_v4 main_call3_v5 rfl shapeCasts_S1x8192x1_S8192x1x1,
    nullary main_call3_c_1 (constantI S1 32 63#32),
    nullary main_call3_c_2 (constantI S_ 32 0#32),
    unary main_call3_c_2 main_call3_v6 (broadcastInDim S8192x1x1 ![] bcast_S_S8192x1x1),
    binary main_call3_v5 main_call3_v6 main_call3_v7 (cmpi .sge),
    unary main_call3_c_1 main_call3_v8 (broadcastInDim S1x1x1 ![2] bcast_S1_S1x1x1_2),
    unary main_call3_v8 main_call3_v9 (broadcastInDim S8192x1x1 ![0, 1, 2] bcast_S1x1x1_S8192x1x1_0_1_2),
    binary main_call3_v5 main_call3_v9 main_call3_v10 (cmpi .sle),
    binary main_call3_v7 main_call3_v10 main_call3_v11 andi,
    nullary main_call3_c_3 (constantI S_ 1 1#1),
    binary main_call3_v11 main_call3_c_3 main_call3_v12 (fun x v => Host.reduce IntOp.andi x v reducesTo_S8192x1x1_S8192x1_d2 h_S_),
    binary main_v32 main_call3_v5 main_call3_v13 (fun x i => Host.gather gather_S1x8192x64_S8192x1x1_S1x8192x1_0_2_1_0_2_2_111 x i),
    unary main_call3_v12 main_call3_v14 (broadcastInDim S1x8192x1 ![1, 2] bcast_S8192x1_S1x8192x1_1_2),
    nullary main_call3_cst (constant S_ .f32 0x7FC00000#32),
    unary main_call3_cst main_call3_v15 (broadcastInDim S1x8192x1 ![] bcast_S_S1x8192x1),
    ternary main_call3_v14 main_call3_v13 main_call3_v15 main_v34 select,
    reshape main_v34 main_v35 rfl shapeCasts_S1x8192x1_S8192,
    reshape main_v29 main_v36 rfl shapeCasts_S1x8192_S8192,
    nullary main_cst_10 (constant S_ .f32 0x3F800000#32),
    unary main_cst_10 main_v37 (broadcastInDim S1 ![] bcast_S_S1) ]

/-- The last two: the results from their parts. -/
abbrev ops₁ : List (HloOp τ sig (Elt F)) :=
  [ nary ![main_v37, main_v35, main_v37] main_v38 (fun u => concatenate S8194 0 [⟨S1, u 0⟩, ⟨S8192, u 1⟩, ⟨S1, u 2⟩] concatenates_S1_S8192_S1_S8194_d0),
    nary ![main_c, main_v36, main_c_0] main_v39 (fun u => concatenate S8194 0 [⟨S1, u 0⟩, ⟨S8192, u 1⟩, ⟨S1, u 2⟩] concatenates_S1_S8192_S1_S8194_d0) ]

/-- @main's operations, in order. -/
abbrev ops : List (HloOp τ sig (Elt F)) := opsU ++ (ops₀ ++ ops₁)

/-- @main is that straight line. -/
theorem main_eq (c : Dev nD) : main (F := F) c = seq ops := rfl

/-- Two lines one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! The parts of the results, from what the draw leaves: -/

theorem one_eq (V : Valuation τ sig (Elt F)) : after ops₀ V (main_v37 : DevRef τ sig) =
    broadcastInDim S1 ![] bcast_S_S1 (constant S_ .f32 0x3F800000#32) := by
  after_results_simp

section
variable {V : Valuation τ sig (Elt F)} {W : FVec F S8192x64 .f32}
  (h0 : V (main_v0 : DevRef τ sig) = broadcastInDim S1x8192x64 ![1, 2] bcast_S8192x64_S1x8192x64_1_2 W)
  (hn : V (main_v10 : DevRef τ sig) = noise)

include h0 hn

theorem taken_eq : after ops₀ V (main_v35 : DevRef τ sig) = shapeCast S8192 (taken W) shapeCasts_S1x8192x1_S8192 := by
  after_results_simp
  simp only [h0, hn]
  rfl
theorem place_eq : after ops₀ V (main_v36 : DevRef τ sig) = shapeCast S8192 (place W) shapeCasts_S1x8192_S8192 := by
  after_results_simp
  simp only [h0, hn]
  rfl

end

theorem first_eq (V : Valuation τ sig (Elt F)) : after ops₀ V (main_c : DevRef τ sig) = V (main_c : DevRef τ sig) := by
  after_results_simp
theorem last_eq (V : Valuation τ sig (Elt F)) : after ops₀ V (main_c_0 : DevRef τ sig) = V (main_c_0 : DevRef τ sig) := by
  after_results_simp

/-! The results from their parts: -/

theorem catF_eq (U : Valuation τ sig (Elt F)) : after ops₁ U (main_v38 : DevRef τ sig) =
    concatenate S8194 0 [⟨S1, U (main_v37 : DevRef τ sig)⟩, ⟨S8192, U (main_v35 : DevRef τ sig)⟩,
      ⟨S1, U (main_v37 : DevRef τ sig)⟩] concatenates_S1_S8192_S1_S8194_d0 := by
  after_results
  rfl
theorem catI_eq (U : Valuation τ sig (Elt F)) : after ops₁ U (main_v39 : DevRef τ sig) =
    concatenate S8194 0 [⟨S1, U (main_c : DevRef τ sig)⟩, ⟨S8192, U (main_v36 : DevRef τ sig)⟩,
      ⟨S1, U (main_c_0 : DevRef τ sig)⟩] concatenates_S1_S8192_S1_S8194_d0 := by
  after_results
  rfl

/-- The draw writes no argument. -/
theorem draw_arg (V : Valuation τ sig (Elt F)) (b : DevRef τ sig) (hb : b.idx.val < 3 := by decide) : after opsU V b = V b :=
  after_below numbered V b hb

/-- The second argument spread over a leading axis, as the draw leaves it. -/
theorem spread_eq (V : Valuation τ sig (Elt F)) : after opsU V (main_v0 : DevRef τ sig)
    = broadcastInDim S1x8192x64 ![1, 2] bcast_S8192x64_S1x8192x64_1_2 (V (main_arg1 : DevRef τ sig)) :=
  (draw V).1.2.2.trans (congrArg (broadcastInDim S1x8192x64 ![1, 2] bcast_S8192x64_S1x8192x64_1_2) (draw_arg V main_arg1))

/-- The fold of the operations, at the first result's buffer, -/
theorem outF_eq (V : Valuation τ sig (Elt F)) : after ops V (main_v38 : DevRef τ sig) = refF (V (main_arg1 : DevRef τ sig)) := by
  rw [after_append, after_append, catF_eq, one_eq, taken_eq (spread_eq V) (draw V).2]; rfl

/-- and at the second's. -/
theorem outI_eq (V : Valuation τ sig (Elt F)) : after ops V (main_v39 : DevRef τ sig) = refI (V (main_arg1 : DevRef τ sig)) := by
  rw [after_append, after_append, catI_eq, first_eq, place_eq (spread_eq V) (draw V).2, last_eq, (draw V).1.1, (draw V).1.2.1]; rfl

/-- No operation writes an argument. -/
theorem arg0_eq (V : Valuation τ sig (Elt F)) : after ops V (main_arg0 : DevRef τ sig) = V (main_arg0 : DevRef τ sig) := by
  rw [after_append, after_append, ← draw_arg V main_arg0]
  generalize after opsU V = U
  after_results_simp
theorem arg1_eq (V : Valuation τ sig (Elt F)) : after ops V (main_arg1 : DevRef τ sig) = V (main_arg1 : DevRef τ sig) := by
  rw [after_append, after_append, ← draw_arg V main_arg1]
  generalize after opsU V = U
  after_results_simp
theorem arg2_eq (V : Valuation τ sig (Elt F)) : after ops V (main_arg2 : DevRef τ sig) = V (main_arg2 : DevRef τ sig) := by
  rw [after_append, after_append, ← draw_arg V main_arg2]
  generalize after opsU V = U
  after_results_simp

/-- Nothing is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [ops, List.forall_append, List.Forall, nullary_bufs_sub, unary_bufs_sub, binary_bufs_sub, ternary_bufs_sub, quaternary_bufs_sub,
    reshape_bufs_sub, nary_bufs_sub, and_self]

/-- The run: every weakly fair execution terminates, the results hold `refF` and `refI` of the second argument, the
    arguments what they held. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = refF (m ((c.tc : Thread nD τ).loc main_arg1))
      ∧ r.2.mem ((c.tc : Thread nD τ).loc main_v39) = refI (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v38).trans (outF_eq _), (h c main_v39).trans (outI_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.Proof.Ref

end
-- ==== Proof.RefSoft.lean ====
/-
  The reference's softmax and its argmax at the ideal numbers, row by row: where a row's perturbed logits have a greatest
  value that is a real number, the softmax is real and its argmax is the first place of that value.
-/
module

public import proofs.«01_k».proof.Proof.RefRun
public import proofs.«01_k».proof.Proof.Row
public import proofs.«01_k».proof.Proof.Noise
public import Idealize.ShloMosaic.PureOps.Ideal.Laws
public import Idealize.ShloMosaic.Lib.ValueIdx
public import Idealize.ShloMosaic.Lib.IdealHost
public import Idealize.ShloMosaic.Lib.Pipeline.Value

@[expose] public section

set_option maxRecDepth 100000

noncomputable section

namespace Cert.Proof.Ref

open Cert.ReferenceIdeal
open Cert.ReferenceIdeal.Facts₀
open Idealize.ShloMosaic Idealize.ShloMosaic.ValueIdx
open Cert.Proof.Row (ex rs pick one_sub_add)
open Cert.Proof.Noise

/-- A row's perturbed logits: its logits less the noise. -/
def row (W : FVec Ideal S8192x64 .f32) (k : Fin 8192) (d : Fin 64) : EReal := W (ix2 k d) - gum (BitVec.ofNat 32 (k.val * 64 + d.val))

theorem noise_at (k : Fin 8192) (d : Fin 64) : noise (F := Ideal) (ix3 0 k d) = unif (BitVec.ofNat 32 (k.val * 64 + d.val)) :=
  unif_scaled (BitVec.ofNat 32 (k.val * 64 + d.val))

/-! ## A row's reductions and broadcasts -/

theorem red : S1x8192x64.Reduces [2] S1x8192 := by decide

theorem lift_eq (k : Fin 8192) (d : Fin 64) : red.lift (ix2 0 k) d = ix3 0 k d := by
  funext a
  refine Fin.ext (Eq.trans (Shape.Reduces.lift_val red (ix2 0 k) d a) ?_)
  match a with
  | ⟨0, _⟩ => rfl
  | ⟨1, _⟩ => rfl
  | ⟨2, _⟩ => rfl

theorem minus_inf : Ideal.ofBits .f32 0xFF800000#32 = ⊥ := by
  show Ideal.ieee 8 23 0xFF800000#32 = ⊥
  simp [Ideal.ieee]

theorem max_at (v : FVec Ideal S1x8192x64 .f32) (k : Fin 8192) :
    Host.reduce (FloatOps.maximumf (F := Ideal) (φ := .f32)) v (constant S_ .f32 0xFF800000#32) reducesTo_S1x8192x64_S1x8192_d2
        h_S_ (ix2 0 k)
      = (Finset.univ : Finset (Fin 64)).fold max ⊥ (fun d => v (ix3 0 k d)) := by
  refine (Host.reduce_eq_fold_single FloatOps.maximumf v _ reducesTo_S1x8192x64_S1x8192_d2 red h_S_ (ix2 0 k)).trans ?_
  exact congrArg₂ (fun b f => Finset.fold max b f (Finset.univ : Finset (Fin 64))) minus_inf
    (funext fun d => congrArg v (lift_eq k d))

theorem sum_at (v : FVec Ideal S1x8192x64 .f32) (k : Fin 8192) :
    (Host.reduceAdd v (constant S_ .f32 0x00000000#32) reducesTo_S1x8192x64_S1x8192_d2 h_S_ (ix2 0 k) : EReal)
      = ∑ d : Fin 64, v (ix3 0 k d) := by
  refine (Ideal.hostReduceAdd_single reducesTo_S1x8192x64_S1x8192_d2 red v _ (ix2 0 k)).trans ?_
  refine (congrArg₂ (fun a b : EReal => a + b) Ideal.ofBits_zero_f32
    (Finset.sum_congr rfl fun d _ => congrArg v (lift_eq k d))).trans ?_
  exact zero_add _

theorem spread_at (v : FVec Ideal S1x8192 .f32) (k : Fin 8192) (d : Fin 64) : spread v (ix3 0 k d) = v (ix2 0 k) := by
  unfold spread
  refine (broadcastInDim_apply _ bcast_S1x8192x1_S1x8192x64_0_1_2 _ _ (ix3 0 k 0) fun a => ?_).trans
    (broadcastInDim_apply _ bcast_S1x8192_S1x8192x1_0_1 v _ (ix2 0 k) fun a => ?_)
  · match a with
    | ⟨0, _⟩ => rfl
    | ⟨1, _⟩ => rfl
    | ⟨2, _⟩ => rfl
  · match a with
    | ⟨0, _⟩ => rfl
    | ⟨1, _⟩ => rfl

/-! ## The softmax -/

theorem div_one (x : EReal) : Ideal.div x 1 = x := by
  have h := Ideal.div_coe one_ne_zero x
  simpa using h

variable {W : FVec Ideal S8192x64 .f32} {k : Fin 8192} {p : Fin 64} {B : ℝ}

/-- The logits over the temperature, whatever the numbers drawn. -/
theorem logit_at (n : FVec Ideal S1x8192x64 .f32) (d : Fin 64) :
    (Host.divf (addf (broadcastInDim S1x8192x64 ![1, 2] bcast_S8192x64_S1x8192x64_1_2 W)
        (Host.negf (Host.log (Host.negf (Host.log n)))))
      (broadcastInDim S1x8192x64 ![] bcast_S_S1x8192x64 (constant S_ .f32 0x3F800000#32)) (ix3 0 k d) : EReal)
    = W (ix2 k d) - Ideal.log (-Ideal.log (n (ix3 0 k d))) := by
  have hW : (broadcastInDim S1x8192x64 ![1, 2] bcast_S8192x64_S1x8192x64_1_2 W (ix3 0 k d) : EReal) = W (ix2 k d) := by
    refine broadcastInDim_apply _ bcast_S8192x64_S1x8192x64_1_2 W _ (ix2 k d) fun a => ?_
    match a with
    | ⟨0, _⟩ => rfl
    | ⟨1, _⟩ => rfl
  refine (congrArg₂ Ideal.div (congrArg (fun a : EReal => a + -Ideal.log (-Ideal.log (n (ix3 0 k d)))) hW)
    Ideal.ofBits_one_f32).trans ?_
  rw [div_one, sub_eq_add_neg]

theorem z_at (d : Fin 64) : (z W (ix3 0 k d) : EReal) = row W k d := by
  unfold z row gum
  rw [logit_at noise d, noise_at]

theorem top_at (h : Row.Top (row W k) p B) : (top W (ix2 0 k) : EReal) = (B : EReal) := by
  refine (congrArg₂ (fun a b : EReal => max a b) minus_inf (max_at (z W) k)).trans ?_
  refine (max_eq_right bot_le).trans ?_
  rw [← h.fold]
  exact congrArg (fun f => Finset.fold max ⊥ f (Finset.univ : Finset (Fin 64))) (funext fun d => z_at d)

theorem e_at (h : Row.Top (row W k) p B) (d : Fin 64) : (e W (ix3 0 k d) : EReal) = ex (row W k) B d :=
  congrArg₂ (fun a b : EReal => Ideal.exp (a - b)) (z_at d) ((spread_at (top W) k d).trans (top_at h))

theorem y_at (h : Row.Top (row W k) p B) (d : Fin 64) :
    (y W (ix3 0 k d) : EReal) = Ideal.div (ex (row W k) B d) (rs (row W k) B : EReal) := by
  refine congrArg₂ Ideal.div (e_at h d) ((spread_at _ k d).trans ((sum_at (e W) k).trans ?_))
  rw [← h.sum_ex]
  exact Finset.sum_congr rfl fun d _ => e_at h d

/-! ## The argmax -/

theorem reducer_eq : reducer_argmax_f32_i32 (F := Ideal) = pick := by
  funext a b
  unfold reducer_argmax_f32_i32 pick
  by_cases h1 : b.1 < a.1 <;> by_cases h2 : a.1 = b.1 <;> by_cases h3 : a.2.toInt < b.2.toInt <;>
    simp [Ideal.cmpf_def, Ideal.cmp, IntOp.cmpi, IntOp.ori, IntOp.andi, Scalar.select, BitVec.slt, h1, h2, h3]

/-- The pairs a row's argmax goes over: one for each of the row's places. -/
theorem mem_fiber (v : FVec Ideal S1x8192x64 .f32) (q : IVec S1x8192x64 32) (k : Fin 8192) (a : EReal × BitVec 32) :
    a ∈ Host.argReduceFiber v q reducesTo_S1x8192x64_S1x8192_d2 (ix2 0 k) ↔ ∃ d : Fin 64, a = (v (ix3 0 k d), q (ix3 0 k d)) := by
  unfold Host.argReduceFiber
  rw [Shape.ReducesTo.drop_eq_drop reducesTo_S1x8192x64_S1x8192_d2 red]
  simp only [List.mem_map, List.mem_filter, List.mem_finRange, true_and, decide_eq_true_eq]
  constructor
  · rintro ⟨n, hn, he⟩
    have hi : S1x8192x64.rowMajor.symm n = ix3 0 k ((S1x8192x64.rowMajor.symm n) 2) :=
      ((red.lift_drop (S1x8192x64.rowMajor.symm n)).symm.trans (congrArg (fun j => red.lift j _) hn)).trans (lift_eq k _)
    exact ⟨_, he.symm.trans (congrArg (fun i => (v i, q i)) hi)⟩
  · rintro ⟨d, he⟩
    refine ⟨S1x8192x64.rowMajor (ix3 0 k d), ?_, ?_⟩
    · rw [Equiv.symm_apply_apply, ← lift_eq]
      exact red.drop_lift (ix2 0 k) d
    · rw [Equiv.symm_apply_apply]
      exact he.symm

theorem least_init : constant (F := Ideal) S_ .f32 0xFF800000#32 (Shape.Idx.first h_S_) = (⊥ : EReal) := minus_inf

theorem fold_at (v : FVec Ideal S1x8192x64 .f32) (q : IVec S1x8192x64 32) (k : Fin 8192) :
    Host.argReduce pick v q (constant (F := Ideal) S_ .f32 0xFF800000#32) (constantI S_ 32 0#32) reducesTo_S1x8192x64_S1x8192_d2
        h_S_ (ix2 0 k)
      = (Host.argReduceFiber v q reducesTo_S1x8192x64_S1x8192_d2 (ix2 0 k)).foldl pick (⊥, 0#32) := by
  rw [Ideal.argReduce_eq_reduce2, Host.reduce2_eq_foldl_fiber, least_init]
  rfl

theorem place_at (h : Row.Top (row W k) p B) : place W (ix2 0 k) = BitVec.ofNat 32 p.val := by
  unfold place
  rw [reducer_eq, fold_at]
  refine h.fold_place _ _ fun a => (mem_fiber (y W) (iotaInDim S1x8192x64 32 2) k a).trans ?_
  refine exists_congr fun d => ?_
  rw [y_at h d]
  exact Iff.rfl

end Cert.Proof.Ref

end
-- ==== Proof.RefTake.lean ====
/-
  The reference's results at the ideal numbers: where every row's perturbed logits have a greatest value that is a real
  number, the straight-through one-hot at a row's argmax is one, so the first result is one everywhere, and the second is
  the rows' argmaxes between the two constants.
-/
module

public import proofs.«01_k».proof.Proof.RefSoft
public import Idealize.ShloMosaic.Lib.ReduceAll

@[expose] public section

set_option maxRecDepth 100000

noncomputable section

namespace Cert.Proof.Ref

open Cert.ReferenceIdeal
open Cert.ReferenceIdeal.Facts₀
open Idealize.ShloMosaic Idealize.ShloMosaic.ValueIdx
open Cert.Proof.Row (ex rs pick one_sub_add)

/-! ## Reading a row at its place -/

theorem column_at (q : IVec S1x8192 32) (k : Fin 8192) : column q (ix3 0 k 0) = q (ix2 0 k) := by
  unfold column
  refine broadcastInDim_apply _ bcast_S1x8192_S1x8192x1_0_1 q _ (ix2 0 k) fun a => ?_
  match a with
  | ⟨0, _⟩ => rfl
  | ⟨1, _⟩ => rfl

theorem wide_at (q : IVec S1x8192x1 32) (k : Fin 8192) (d : Fin 64) :
    broadcastInDim S1x8192x64 ![0, 1, 2] bcast_S1x8192x1_S1x8192x64_0_1_2 q (ix3 0 k d) = q (ix3 0 k 0) := by
  refine broadcastInDim_apply _ bcast_S1x8192x1_S1x8192x64_0_1_2 q _ (ix3 0 k 0) fun a => ?_
  match a with
  | ⟨0, _⟩ => rfl
  | ⟨1, _⟩ => rfl
  | ⟨2, _⟩ => rfl

theorem counts_at (k : Fin 8192) (d : Fin 64) :
    broadcastInDim S1x8192x64 ![0, 1, 2] bcast_S1x1x64_S1x8192x64_0_1_2 (iotaInDim S1x1x64 32 2) (ix3 0 k d) = BitVec.ofNat 32 d.val := by
  refine (broadcastInDim_apply _ bcast_S1x1x64_S1x8192x64_0_1_2 (iotaInDim S1x1x64 32 2) _ (ix3 0 0 d) fun a => ?_).trans rfl
  match a with
  | ⟨0, _⟩ => rfl
  | ⟨1, _⟩ => rfl
  | ⟨2, _⟩ => rfl

variable {k : Fin 8192} {d : Fin 64}

/-- The one-hot is one at the row's place. -/
theorem oneHot_at {q : IVec S1x8192 32} (hq : q (ix2 0 k) = BitVec.ofNat 32 d.val) :
    (oneHot (F := Ideal) q (ix3 0 k d) : EReal) = 1 := by
  have hc : cmpi .eq (broadcastInDim S1x8192x64 ![0, 1, 2] bcast_S1x8192x1_S1x8192x64_0_1_2 (column q))
      (broadcastInDim S1x8192x64 ![0, 1, 2] bcast_S1x1x64_S1x8192x64_0_1_2 (iotaInDim S1x1x64 32 2)) (ix3 0 k d) = 1#1 := by
    refine (congrArg₂ (IntOp.cmpi .eq) ((wide_at _ k d).trans ((column_at q k).trans hq)) (counts_at k d)).trans ?_
    simp [IntOp.cmpi]
  refine (congrArg (fun b : BitVec 1 => (((b.toNat : ℝ)) : EReal)) hc).trans ?_
  norm_num

theorem wrapped_at {q : IVec S1x8192x1 32} (hq : q (ix3 0 k 0) = BitVec.ofNat 32 d.val) :
    wrapped q (ix3 k 0 0) = BitVec.ofNat 32 d.val := by
  have hs : ∀ d : Fin 64, Scalar.select (IntOp.cmpi .slt (BitVec.ofNat 32 d.val) 0#32)
      (IntOp.addi (BitVec.ofNat 32 d.val) 64#32) (BitVec.ofNat 32 d.val) = BitVec.ofNat 32 d.val := by decide
  unfold wrapped
  refine (shapeCast_apply _ shapeCasts_S1x8192x1_S8192x1x1 (ix3 k 0 0) (ix3 0 k 0) ?_).trans ?_
  · refine (Shape.rowMajor_val_three (ix3 0 k 0)).trans (Eq.trans ?_ (Shape.rowMajor_val_three (ix3 k 0 0)).symm)
    show (0 * 8192 + k.val) * 1 + 0 = (k.val * 1 + 0) * 1 + 0
    omega
  · refine Eq.trans ?_ (hs d)
    rw [← hq]
    rfl

/-- Places within the rows are inside. -/
theorem inside_at {q : IVec S8192x1x1 32} (hq : ∀ k, ∃ d : Fin 64, q (ix3 k 0 0) = BitVec.ofNat 32 d.val) (j : S8192x1.Idx) :
    inside q j = 1#1 := by
  have hs : ∀ d : Fin 64, IntOp.andi (IntOp.cmpi .sge (BitVec.ofNat 32 d.val) 0#32)
      (IntOp.cmpi .sle (BitVec.ofNat 32 d.val) 63#32) = 1#1 := by decide
  unfold inside
  refine Host.reduce_andi_one _ _ reducesTo_S8192x1x1_S8192x1_d2 h_S_ j rfl fun i => ?_
  obtain ⟨a, b, c, rfl⟩ : ∃ a b c, i = ix3 a b c := ⟨_, _, _, eq_ix3 i⟩
  obtain rfl : b = 0 := Subsingleton.elim _ _
  obtain rfl : c = 0 := Subsingleton.elim _ _
  obtain ⟨d, hd⟩ := hq a
  refine Eq.trans ?_ (hs d)
  rw [← hd]
  rfl

/-- The gather reads row `k` at its place. -/
theorem gather_at (x : FVec Ideal S1x8192x64 .f32) {q : IVec S8192x1x1 32} (hq : q (ix3 k 0 0) = BitVec.ofNat 32 d.val) :
    Host.gather gather_S1x8192x64_S8192x1x1_S1x8192x1_0_2_1_0_2_2_111 x q (ix3 0 k 0) = x (ix3 0 k d) := by
  have hs : ∀ d : Fin 64, min (BitVec.ofNat 32 d.val).toInt.toNat (64 - 1) = d.val := by decide
  refine congrArg x (funext fun a => Fin.ext ?_)
  show gather_S1x8192x64_S8192x1x1_S1x8192x1_0_2_1_0_2_2_111.start (ix3 0 k 0) q a
    + gather_S1x8192x64_S8192x1x1_S1x8192x1_0_2_1_0_2_2_111.batchCoord (ix3 0 k 0) a
    + gather_S1x8192x64_S8192x1x1_S1x8192x1_0_2_1_0_2_2_111.offCoord (ix3 0 k 0) a = _
  match a with
  | ⟨0, _⟩ => rfl
  | ⟨1, _⟩ =>
    refine (congrArg₂ (fun s o : ℕ => s + _ + o) (GatherDims.start_batching _ _ q _ (List.mem_singleton.mpr rfl))
      (GatherDims.offCoord_eq_zero _ _ _ fun h => ((GatherDims.mem_sKept _ _).mp h).2 (List.mem_singleton.mpr rfl))).trans ?_
    rw [Nat.zero_add, Nat.add_zero]
    unfold GatherDims.batchCoord
    exact (dif_pos (List.mem_singleton.mpr rfl)).trans rfl
  | ⟨2, _⟩ =>
    have hi : gather_S1x8192x64_S8192x1x1_S1x8192x1_0_2_1_0_2_2_111.siIdx (ix3 0 k 0)
        ⟨List.idxOf (2 : Fin 3) [2], List.idxOf_lt_length_iff.2 (List.mem_singleton.mpr rfl)⟩ = ix3 k 0 0 := by
      funext b
      refine Fin.ext ?_
      match b with
      | ⟨0, _⟩ => rfl
      | ⟨1, _⟩ => rfl
      | ⟨2, _⟩ => rfl
    refine Eq.trans ?_ (hs d)
    rw [← hq, ← hi]
    rfl

theorem takeAlong_at (x : FVec Ideal S1x8192x64 .f32) {q : IVec S1x8192x1 32} (hq : ∀ k, ∃ d : Fin 64, q (ix3 0 k 0) = BitVec.ofNat 32 d.val)
    (hd : q (ix3 0 k 0) = BitVec.ofNat 32 d.val) : (takeAlong x q (ix3 0 k 0) : EReal) = x (ix3 0 k d) := by
  have hin : broadcastInDim S1x8192x1 ![1, 2] bcast_S8192x1_S1x8192x1_1_2 (inside (wrapped q)) (ix3 0 k 0) = 1#1 := by
    unfold broadcastInDim
    exact inside_at (fun k => let ⟨d, h⟩ := hq k; ⟨d, wrapped_at h⟩) _
  unfold takeAlong
  rw [select_apply, hin, gather_at x (wrapped_at hd)]
  rfl

/-! ## The results -/

variable {W : FVec Ideal S8192x64 .f32} {p : Fin 8192 → Fin 64} {B : Fin 8192 → ℝ}

theorem st_at (h : ∀ k, Row.Top (row W k) (p k) (B k)) (k : Fin 8192) : (st W (ix3 0 k (p k)) : EReal) = 1 := by
  refine (congrArg₂ (fun a b : EReal => a - b + b) (oneHot_at (place_at (h k))) ((y_at (h k) (p k)).trans ((h k).y_eq (p k)))).trans ?_
  exact one_sub_add _

theorem taken_at (h : ∀ k, Row.Top (row W k) (p k) (B k)) (k : Fin 8192) : (taken W (ix3 0 k 0) : EReal) = 1 :=
  (takeAlong_at (st W) (fun k => ⟨p k, (column_at _ k).trans (place_at (h k))⟩) ((column_at _ k).trans (place_at (h k)))).trans
    (st_at h k)

/-- Three pieces one after another: the first and the last of one element each. -/
theorem cat_at {α : Type} (u : S1.Idx → α) (v : S8192.Idx → α) (w : S1.Idx → α) (i : S8194.Idx) :
    concatenate S8194 0 [⟨S1, u⟩, ⟨S8192, v⟩, ⟨S1, w⟩] concatenates_S1_S8192_S1_S8194_d0 i
      = if h0 : (i 0).val = 0 then u (ix1 0)
        else if h1 : (i 0).val = 8193 then w (ix1 0)
        else v (ix1 ⟨(i 0).val - 1, by have : (i 0).val < 8194 := (i 0).isLt; omega⟩) := by
  have hi : (i 0).val < 8194 := (i 0).isLt
  have hb : ∀ b : Fin 1, b ≠ 0 → False := fun b hb => hb (Subsingleton.elim _ _)
  by_cases h0 : (i 0).val = 0
  · rw [dif_pos h0]
    exact concatenate_apply_piece (t := S8194) 0 [⟨S1, u⟩, ⟨S8192, v⟩, ⟨S1, w⟩] concatenates_S1_S8192_S1_S8194_d0 i 0
      (by simp) S1 u rfl rfl 0 rfl (ix1 0) (fun b h => (hb _ h).elim) h0.symm
  rw [dif_neg h0]
  by_cases h1 : (i 0).val = 8193
  · rw [dif_pos h1]
    exact concatenate_apply_piece (t := S8194) 0 [⟨S1, u⟩, ⟨S8192, v⟩, ⟨S1, w⟩] concatenates_S1_S8192_S1_S8194_d0 i 2
      (by simp) S1 w rfl rfl 8193 rfl (ix1 0) (fun b h => (hb _ h).elim) h1.symm
  · rw [dif_neg h1]
    refine concatenate_apply_piece (t := S8194) 0 [⟨S1, u⟩, ⟨S8192, v⟩, ⟨S1, w⟩] concatenates_S1_S8192_S1_S8194_d0 i 1
      (by simp) S8192 v rfl rfl 1 rfl (ix1 _) (fun b h => (hb _ h).elim) ?_
    show 1 + ((i 0).val - 1) = (i 0).val
    omega

theorem flat_at (v : FVec Ideal S1x8192x1 .f32) (k : Fin 8192) :
    shapeCast S8192 v shapeCasts_S1x8192x1_S8192 (ix1 k) = v (ix3 0 k 0) := by
  refine shapeCast_apply v shapeCasts_S1x8192x1_S8192 _ (ix3 0 k 0) ?_
  refine (Shape.rowMajor_val_three (ix3 0 k 0)).trans (Eq.trans ?_ (Shape.rowMajor_val_one (ix1 k)).symm)
  show (0 * 8192 + k.val) * 1 + 0 = k.val
  omega

theorem line_at (q : IVec S1x8192 32) (k : Fin 8192) : shapeCast S8192 q shapeCasts_S1x8192_S8192 (ix1 k) = q (ix2 0 k) := by
  refine shapeCast_apply q shapeCasts_S1x8192_S8192 _ (ix2 0 k) ?_
  refine (Shape.rowMajor_val_two (ix2 0 k)).trans (Eq.trans ?_ (Shape.rowMajor_val_one (ix1 k)).symm)
  show 0 * 8192 + k.val = k.val
  omega

theorem refF_at (h : ∀ k, Row.Top (row W k) (p k) (B k)) (i : S8194.Idx) : (refF W i : EReal) = 1 := by
  unfold refF
  refine (cat_at _ _ _ i).trans ?_
  split
  · exact Ideal.ofBits_one_f32
  split
  · exact Ideal.ofBits_one_f32
  · exact (flat_at _ _).trans (taken_at h _)

theorem refI_at (h : ∀ k, Row.Top (row W k) (p k) (B k)) (i : S8194.Idx) :
    refI W i = if h0 : (i 0).val = 0 then 64#32
      else if h1 : (i 0).val = 8193 then 65#32
      else BitVec.ofNat 32 (p ⟨(i 0).val - 1, by have : (i 0).val < 8194 := (i 0).isLt; omega⟩).val := by
  unfold refI
  refine (cat_at _ _ _ i).trans ?_
  split
  · rfl
  split
  · rfl
  · exact (line_at _ _).trans (place_at (h _))

end Cert.Proof.Ref

end
-- ==== Proof.Pre.lean ====
/-
  What the precondition says of the second argument at the ideal numbers: each row's greatest value is a real number.
-/
module

public import proofs.«01_k».proof.Pre_finite_rows
public import Idealize.ShloMosaic.PureOps.Ideal.Laws
public import Idealize.ShloMosaic.Lib.ReduceAll
public import Idealize.ShloMosaic.Lib.ValueIdx
public import Idealize.ShloMosaic.Lib.IdealHost

@[expose] public section

set_option maxRecDepth 100000

noncomputable section

namespace Cert.Proof.Pre

open Cert.Pre_finite_rows
open Idealize.ShloMosaic Idealize.ShloMosaic.ValueIdx

/-- The shape relations the precondition states. -/
theorem facts : Facts where
  reducesTo_S8192x64_S8192_d1 := by decide
  h_S_ := by decide
  bcast_S_S8192 := by decide
  reducesTo_S8192_S_d0 := by decide

theorem red : S8192x64.Reduces [1] S8192 := by decide

theorem lift_eq (k : Fin 8192) (d : Fin 64) : red.lift (ix1 k) d = ix2 k d := by
  funext a
  refine Fin.ext (Eq.trans (Shape.Reduces.lift_val red (ix1 k) d a) ?_)
  match a with
  | ⟨0, _⟩ => rfl
  | ⟨1, _⟩ => rfl

theorem minus_inf : Ideal.ofBits .f32 0xFF800000#32 = ⊥ := by
  show Ideal.ieee 8 23 0xFF800000#32 = ⊥
  simp [Ideal.ieee]

theorem plus_inf : Ideal.ofBits .f32 0x7F800000#32 = ⊤ := by
  show Ideal.ieee 8 23 0x7F800000#32 = ⊤
  simp [Ideal.ieee]

theorem max_at (W : FVec Ideal S8192x64 .f32) (k : Fin 8192) :
    Host.reduce (FloatOps.maximumf (F := Ideal) (φ := .f32)) W (constant S_ .f32 0xFF800000#32) facts.reducesTo_S8192x64_S8192_d1
        facts.h_S_ (ix1 k)
      = (Finset.univ : Finset (Fin 64)).fold max ⊥ (fun d => W (ix2 k d)) := by
  refine (Host.reduce_eq_fold_single FloatOps.maximumf W _ facts.reducesTo_S8192x64_S8192_d1 red facts.h_S_ (ix1 k)).trans ?_
  exact congrArg₂ (fun b f => Finset.fold max b f (Finset.univ : Finset (Fin 64))) minus_inf
    (funext fun d => congrArg W (lift_eq k d))

/-- A value whose magnitude is below plus infinity is a real number. -/
theorem real_of_abs {x : EReal} (h : max x (-x) < ⊤) : ∃ r : ℝ, x = (r : EReal) := by
  induction x using EReal.rec with
  | bot => simp at h
  | top => simp at h
  | coe r => exact ⟨r, rfl⟩

theorem bound_at (i : S8192.Idx) :
    broadcastInDim S8192 ![] facts.bcast_S_S8192 (constant (F := Ideal) S_ .f32 0x7F800000#32) i = (⊤ : EReal) := by
  rw [broadcastInDim_scalar_apply]
  exact plus_inf

theorem below_at (x v : FVec Ideal S8192 .f32) (i : S8192.Idx) :
    cmpf .olt (Host.absf x) v i = Ideal.cmp .olt (max (x i) (-(x i))) (v i) := rfl

theorem finite_row {a0 : FVec Ideal S16x196x64 .f32} {W : FVec Ideal S8192x64 .f32} {a2 : IVec S_ 32}
    (h : @fn facts Ideal _ a0 W a2 = fun _ => 1#1) (k : Fin 8192) :
    ∃ B : ℝ, (Finset.univ : Finset (Fin 64)).fold max ⊥ (fun d => W (ix2 k d)) = (B : EReal) := by
  have : Subsingleton S_.Idx := ⟨fun a b => funext fun i => i.elim0⟩
  have hk : cmpf .olt (Host.absf (Host.reduce (FloatOps.maximumf (F := Ideal) (φ := .f32)) W (constant S_ .f32 0xFF800000#32)
      facts.reducesTo_S8192x64_S8192_d1 facts.h_S_)) (broadcastInDim S8192 ![] facts.bcast_S_S8192
        (constant (F := Ideal) S_ .f32 0x7F800000#32)) (ix1 k) = 1#1 :=
    Host.reduce_andi_all _ _ facts.reducesTo_S8192_S_d0 facts.h_S_ ix0 (congrFun h ix0) (ix1 k)
  rw [below_at, bound_at, max_at] at hk
  refine real_of_abs ?_
  by_contra hn
  simp [Ideal.cmp, hn] at hk

end Cert.Proof.Pre

end
-- ==== Proof.Value.lean ====
/-
  The two programs' results are equal at the ideal numbers: the noise one draws is the other's, so their rows' perturbed
  logits are the same, and each row's greatest is a real number where the precondition holds.
-/
module

public import proofs.«01_k».proof.Proof.KerEnd
public import proofs.«01_k».proof.Proof.RefTake
public import proofs.«01_k».proof.Proof.Pre

@[expose] public section

noncomputable section

namespace Cert.Proof.Value

open Idealize.ShloMosaic Idealize.ShloMosaic.ValueIdx Idealize.SL.Sem
open Cert.Proof.Noise

/-- A row's perturbed logits are the same in the two programs. -/
theorem row_eq (W : FVec Ideal Cert.KernelIdeal.S8192x64 .f32) (k : Fin 8192) : Ker.row W k = Ref.row W k := rfl

/-- Where the precondition holds every row's perturbed logits have a greatest value that is a real number. -/
theorem tops {a0 : FVec Ideal Cert.Pre_finite_rows.S16x196x64 .f32} {W : FVec Ideal Cert.Pre_finite_rows.S8192x64 .f32}
    {a2 : IVec Cert.Pre_finite_rows.S_ 32} (h : @Cert.Pre_finite_rows.fn Pre.facts Ideal _ a0 W a2 = fun _ => 1#1) :
    ∃ (p : Fin 8192 → Fin 64) (B : Fin 8192 → ℝ), ∀ k, Row.Top (Ref.row W k) (p k) (B k) := by
  have hk : ∀ k, ∃ (p : Fin 64) (B : ℝ), Row.Top (Ref.row W k) p B := fun k => by
    obtain ⟨A, hA⟩ := Pre.finite_row h k
    obtain ⟨B, hB⟩ := max_sub_real hA fun d => gum_real (BitVec.ofNat 32 (k.val * 64 + d.val))
    obtain ⟨p, hp⟩ := Row.exists_top hB
    exact ⟨p, B, hp⟩
  choose p B hT using hk
  exact ⟨p, B, hT⟩

variable {W : FVec Ideal Cert.ReferenceIdeal.S8192x64 .f32} {p : Fin 8192 → Fin 64} {B : Fin 8192 → ℝ}

theorem refF_eq (h : ∀ k, Row.Top (Ref.row W k) (p k) (B k)) : Ref.refF W = fun _ => (1 : EReal) := funext (Ref.refF_at h)

theorem refI_eq (h : ∀ k, Row.Top (Ref.row W k) (p k) (B k)) : Ref.refI W = Ker.places p := funext (Ref.refI_at h)

end Cert.Proof.Value

end
-- ==== Proof.lean ====
/-
  The certificate. The frames are the kernel's generated ones and the reference's run with no semaphore to count; the
  equality of results reads both programs' runs at the ideal numbers, where each ends at one everywhere and at the rows'
  first places of their greatest perturbed logits.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Value
public import Idealize.ShloMosaic.Lib.Quiescent

@[expose] public section

noncomputable section

namespace Cert.Proof

open Idealize.ShloMosaic Idealize.SL.Sem

/-- The reference runs, its arguments unchanged; it has no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2.2, sem_eq_zero_of_no_sems (by decide) r.2⟩)
    (Ref.run_main (F := Ideal) m g)

/-- The kernel's results are the reference's, where the rows' greatest logits are real. -/
theorem algebraic : Cert.algebraic_KernelIdeal_ReferenceIdeal_pre_finite_rows (hPre_finite_rows := Pre.facts) := by
  intro m g m' g' hpre hargs
  choose p B hT using fun c => Value.tops (hpre c)
  refine ⟨fun _ => fun _ => (1 : EReal), fun c => Ker.places (p c), ?_, ?_⟩
  · exact Ker.run_main m g p B fun c k => (Value.row_eq _ k).symm ▸ hT c k
  · refine (θ_run Cert.ReferenceIdeal.defs _ _).mono (fun r h c => ?_) (Ref.run_main (F := Ideal) m' g')
    obtain ⟨h0, h1, ha⟩ := h c
    refine ⟨h0.trans ?_, h1.trans ?_, ha⟩
    · rw [(hargs c).2.1]
      exact Value.refF_eq (hT c)
    · rw [(hargs c).2.1]
      exact Value.refI_eq (hT c)

theorem claim : Cert.Claim :=
  ⟨Cert.Kernel.Gen.facts, Cert.KernelIdeal.Gen.facts, Cert.ReferenceIdeal.Gen.facts, Pre.facts,
    fun m g _ => Cert.Kernel.Gen.frame m g, fun m g _ => Cert.KernelIdeal.Gen.frame m g, fun m g _ => Cert.KernelIdeal.Gen.frame m g,
    fun m g _ => frame_ref m g, fun m g _ => frame_ref m g, trivial, algebraic⟩

end Cert.Proof

end
